-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v6_4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_v8) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x384x1536 : Shape := ⟨3, ![24, 384, 1536]⟩
abbrev S24x384x8960 : Shape := ⟨3, ![24, 384, 8960]⟩
abbrev S1536x8960 : Shape := ⟨2, ![1536, 8960]⟩
abbrev S8960 : Shape := ⟨1, ![8960]⟩
abbrev S_ : Shape := ⟨0, ![]⟩

class Facts : Prop where
  bcast_S_S24x384x1536 : S_.BroadcastsInDim S24x384x1536 (![] : Fin 0 → Fin S24x384x1536.rank)
  bcast_S_S24x384x8960 : S_.BroadcastsInDim S24x384x8960 (![] : Fin 0 → Fin S24x384x8960.rank)

variable [Facts]

def fn {F : FTy → Type} [FloatOps F] (main_arg0 : FVec F S24x384x1536 .bf16) (main_arg1 : FVec F S24x384x8960 .bf16) (main_arg2 : FVec F S1536x8960 .f32) (main_arg3 : FVec F S8960 .f32) : IVec S24x384x1536 1 × IVec S24x384x8960 1 :=
  let main_v0 : FVec F S24x384x1536 .bf16 := Host.absf main_arg0
  let main_cst : FVec F S_ .bf16 := constant S_ .bf16 0x7F7F#16
  let main_v1 : FVec F S24x384x1536 .bf16 := broadcastInDim S24x384x1536 ![] bcast_S_S24x384x1536 main_cst
  let main_v2 : IVec S24x384x1536 1 := cmpf .ole main_v0 main_v1
  let main_v3 : FVec F S24x384x8960 .bf16 := Host.absf main_arg1
  let main_cst_0 : FVec F S_ .bf16 := constant S_ .bf16 0x7F7F#16
  let main_v4 : FVec F S24x384x8960 .bf16 := broadcastInDim S24x384x8960 ![] bcast_S_S24x384x8960 main_cst_0
  let main_v5 : IVec S24x384x8960 1 := cmpf .ole main_v3 main_v4
  (main_v2, main_v5)
-- ==== Kernel.lean ====
abbrev S24x384x1536 : Shape := ⟨3, ![24, 384, 1536]⟩
abbrev S24x384x8960 : Shape := ⟨3, ![24, 384, 8960]⟩
abbrev S1536x8960 : Shape := ⟨2, ![1536, 8960]⟩
abbrev S8960 : Shape := ⟨1, ![8960]⟩
abbrev S9216x1536 : Shape := ⟨2, ![9216, 1536]⟩
abbrev S9216x8960 : Shape := ⟨2, ![9216, 8960]⟩
abbrev S1x1536 : Shape := ⟨2, ![1, 1536]⟩
abbrev S1536x9216 : Shape := ⟨2, ![1536, 9216]⟩
abbrev S9216x256 : Shape := ⟨2, ![9216, 256]⟩
abbrev S1x256 : Shape := ⟨2, ![1, 256]⟩
abbrev S256x9216 : Shape := ⟨2, ![256, 9216]⟩
abbrev S16x256 : Shape := ⟨2, ![16, 256]⟩
abbrev S512x256 : Shape := ⟨2, ![512, 256]⟩
abbrev S32x16x256 : Shape := ⟨3, ![32, 16, 256]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S1536x1 : Shape := ⟨2, ![1536, 1]⟩
abbrev S1536x128 : Shape := ⟨2, ![1536, 128]⟩
abbrev S1x8960 : Shape := ⟨2, ![1, 8960]⟩
abbrev S768x8960 : Shape := ⟨2, ![768, 8960]⟩
abbrev S1536x256 : Shape := ⟨2, ![1536, 256]⟩
abbrev S768x256 : Shape := ⟨2, ![768, 256]⟩
abbrev S8x256 : Shape := ⟨2, ![8, 256]⟩
abbrev S128x2x256 : Shape := ⟨3, ![128, 2, 256]⟩
abbrev S128x1x256 : Shape := ⟨3, ![128, 1, 256]⟩
abbrev S128x256 : Shape := ⟨2, ![128, 256]⟩
abbrev S32x8x256 : Shape := ⟨3, ![32, 8, 256]⟩
abbrev S1536 : Shape := ⟨1, ![1536]⟩

abbrev nBuf : Space → Nat
  | .hbm => 22
  | .vmem => 26
  | .smem => 0
  | _ => 0

abbrev bufTy : (tb : Table) → Fin (tcTables nBuf tb) → BufTy
  | .hbm, ⟨0, _⟩ => ⟨S24x384x1536, .bf16⟩
  | .hbm, ⟨1, _⟩ => ⟨S24x384x8960, .bf16⟩
  | .hbm, ⟨2, _⟩ => ⟨S1536x8960, .f32⟩
  | .hbm, ⟨3, _⟩ => ⟨S8960, .f32⟩
  | .hbm, ⟨4, _⟩ => ⟨S9216x1536, .bf16⟩
  | .hbm, ⟨5, _⟩ => ⟨S9216x8960, .bf16⟩
  | .hbm, ⟨6, _⟩ => ⟨S9216x1536, .fp8e4m3⟩
  | .hbm, ⟨7, _⟩ => ⟨S1x1536, .f32⟩
  | .hbm, ⟨8, _⟩ => ⟨S1536x9216, .fp8e4m3⟩
  | .hbm, ⟨9, _⟩ => ⟨S1536x1, .f32⟩
  | .hbm, ⟨10, _⟩ => ⟨S1536x128, .f32⟩
  | .hbm, ⟨11, _⟩ => ⟨S1x8960, .f32⟩
  | .hbm, ⟨12, _⟩ => ⟨S1536x8960, .f32⟩
  | .hbm, ⟨13, _⟩ => ⟨S1x8960, .f32⟩
  | .hbm, ⟨14, _⟩ => ⟨S9216x8960, .fp8e5m2⟩
  | .hbm, ⟨15, _⟩ => ⟨S1x8960, .f32⟩
  | .hbm, ⟨16, _⟩ => ⟨S768x8960, .i8⟩
  | .hbm, ⟨17, _⟩ => ⟨S8960, .f32⟩
  | .hbm, ⟨18, _⟩ => ⟨S24x384x1536, .fp8e4m3⟩
  | .hbm, ⟨19, _⟩ => ⟨S1536, .f32⟩
  | .hbm, ⟨20, _⟩ => ⟨S24x384x8960, .fp8e5m2⟩
  | .hbm, ⟨21, _⟩ => ⟨S8960, .f32⟩
  | .local _ .vmem, ⟨0, _⟩ => ⟨S9216x256, .bf16⟩
  | .local _ .vmem, ⟨1, _⟩ => ⟨S9216x256, .bf16⟩
  | .local _ .vmem, ⟨2, _⟩ => ⟨S9216x256, .fp8e4m3⟩
  | .local _ .vmem, ⟨3, _⟩ => ⟨S9216x256, .fp8e4m3⟩
  | .local _ .vmem, ⟨4, _⟩ => ⟨S1x256, .f32⟩
  | .local _ .vmem, ⟨5, _⟩ => ⟨S1x256, .f32⟩
  | .local _ .vmem, ⟨6, _⟩ => ⟨S256x9216, .fp8e4m3⟩
  | .local _ .vmem, ⟨7, _⟩ => ⟨S256x9216, .fp8e4m3⟩
  | .local _ .vmem, ⟨8, _⟩ => ⟨S1536x9216, .fp8e4m3⟩
  | .local _ .vmem, ⟨9, _⟩ => ⟨S1536x128, .f32⟩
  | .local _ .vmem, ⟨10, _⟩ => ⟨S9216x256, .bf16⟩
  | .local _ .vmem, ⟨11, _⟩ => ⟨S9216x256, .bf16⟩
  | .local _ .vmem, ⟨12, _⟩ => ⟨S1536x256, .f32⟩
  | .local _ .vmem, ⟨13, _⟩ => ⟨S1536x256, .f32⟩
  | .local _ .vmem, ⟨14, _⟩ => ⟨S1x256, .f32⟩
  | .local _ .vmem, ⟨15, _⟩ => ⟨S1x256, .f32⟩
  | .local _ .vmem, ⟨16, _⟩ => ⟨S1536x256, .f32⟩
  | .local _ .vmem, ⟨17, _⟩ => ⟨S1536x256, .f32⟩
  | .local _ .vmem, ⟨18, _⟩ => ⟨S1x256, .f32⟩
  | .local _ .vmem, ⟨19, _⟩ => ⟨S1x256, .f32⟩
  | .local _ .vmem, ⟨20, _⟩ => ⟨S9216x256, .fp8e5m2⟩
  | .local _ .vmem, ⟨21, _⟩ => ⟨S9216x256, .fp8e5m2⟩
  | .local _ .vmem, ⟨22, _⟩ => ⟨S1x256, .f32⟩
  | .local _ .vmem, ⟨23, _⟩ => ⟨S1x256, .f32⟩
  | .local _ .vmem, ⟨24, _⟩ => ⟨S768x256, .i8⟩
  | .local _ .vmem, ⟨25, _⟩ => ⟨S768x256, .i8⟩
  | _, _ => ⟨S24x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c18_i32 : BitVec 32 := 18#32
  let v1 : BitVec 32 := Scalar.addi c0_i32 c18_i32
  let c1_i32 : BitVec 32 := 1#32
  ⟨c0_i32, v1, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v50 : BitVec 32 := Scalar.muli arg5 c512_i32
  let v51 : Index := Scalar.indexCast v50
  let c0_21 : Index := 0#32
  ![v51.toNat, 0]
@[reducible] def k0_t2_loop : Scf.Loop 32 :=
  let c0_i32_13 : BitVec 32 := 0#32
  let c18_i32_14 : BitVec 32 := 18#32
  let v48 : BitVec 32 := Scalar.addi c0_i32_13 c18_i32_14
  let c1_i32_15 : BitVec 32 := 1#32
  ⟨c0_i32_13, v48, c1_i32_15⟩
def k0_off2 (k0_t2 : Fin k0_t2_loop.trips) : Fin 2 → Nat :=
  let c0_i32_13 : BitVec 32 := 0#32
  let c1_i32_15 : BitVec 32 := 1#32
  let arg5 : BitVec 32 := Scf.iv c0_i32_13 c1_i32_15 k0_t2
  let c512_i32 : BitVec 32 := 512#32
  let v50 : BitVec 32 := Scalar.muli arg5 c512_i32
  let v51 : Index := Scalar.indexCast v50
  let c0_21 : Index := 0#32
  ![v51.toNat, 0]
@[reducible] def k0_t3_loop : Scf.Loop 32 :=
  let c0_i32_17 : BitVec 32 := 0#32
  let c18_i32_18 : BitVec 32 := 18#32
  let v49 : BitVec 32 := Scalar.addi c0_i32_17 c18_i32_18
  let c1_i32_19 : BitVec 32 := 1#32
  ⟨c0_i32_17, v49, c1_i32_19⟩
def k0_mult1 (k0_t3 : Fin k0_t3_loop.trips) : BitVec 32 :=
  let c0_i32_17 : BitVec 32 := 0#32
  let c1_i32_19 : BitVec 32 := 1#32
  let arg5 : BitVec 32 := Scf.iv c0_i32_17 c1_i32_19 k0_t3
  let c512_i32 : BitVec 32 := 512#32
  let v50 : BitVec 32 := Scalar.muli arg5 c512_i32
  v50
def k0_off3 (k0_t3 : Fin k0_t3_loop.trips) : Fin 2 → Nat :=
  let c0_i32_17 : BitVec 32 := 0#32
  let c1_i32_19 : BitVec 32 := 1#32
  let arg5 : BitVec 32 := Scf.iv c0_i32_17 c1_i32_19 k0_t3
  let c512_i32 : BitVec 32 := 512#32
  let v50 : BitVec 32 := Scalar.muli arg5 c512_i32
  let v51 : BitVec 32 := v50
  let v52 : Index := Scalar.indexCast v51
  let c0_21 : Index := 0#32
  ![v52.toNat, 0]
def k0_off4 (k0_t3 : Fin k0_t3_loop.trips) : Fin 2 → Nat :=
  let c0_22 : Index := 0#32
  let c0_i32_17 : BitVec 32 := 0#32
  let c1_i32_19 : BitVec 32 := 1#32
  let arg5 : BitVec 32 := Scf.iv c0_i32_17 c1_i32_19 k0_t3
  let c512_i32 : BitVec 32 := 512#32
  let v50 : BitVec 32 := Scalar.muli arg5 c512_i32
  let v51 : BitVec 32 := v50
  let v56 : Index := Scalar.indexCast v51
  ![0, v56.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9216x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9216x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x9216 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![35], ![false]⟩

@[reducible] def k1_t1_loop : Scf.Loop 32 :=
  let c0_i32 : BitVec 32 := 0#32
  let c18_i32 : BitVec 32 := 18#32
  let v1 : BitVec 32 := Scalar.addi c0_i32 c18_i32
  let c1_i32 : BitVec 32 := 1#32
  ⟨c0_i32, v1, c1_i32⟩
def k1_off1 (k1_t1 : Fin k1_t1_loop.trips) : Fin 2 → Nat :=
  let c0_i32 : BitVec 32 := 0#32
  let c1_i32 : BitVec 32 := 1#32
  let arg11 : BitVec 32 := Scf.iv c0_i32 c1_i32 k1_t1
  let c512_i32 : BitVec 32 := 512#32
  let v65 : BitVec 32 := Scalar.muli arg11 c512_i32
  let v66 : Index := Scalar.indexCast v65
  let c0_34 : Index := 0#32
  ![v66.toNat, 0]
@[reducible] def k1_t2_loop : Scf.Loop 32 :=
  let c0_i32_13 : BitVec 32 := 0#32
  let c18_i32_14 : BitVec 32 := 18#32
  let v48 : BitVec 32 := Scalar.addi c0_i32_13 c18_i32_14
  let c1_i32_15 : BitVec 32 := 1#32
  ⟨c0_i32_13, v48, c1_i32_15⟩
def k1_off2 (k1_t2 : Fin k1_t2_loop.trips) : Fin 2 → Nat :=
  let c0_i32_13 : BitVec 32 := 0#32
  let c1_i32_15 : BitVec 32 := 1#32
  let arg11 : BitVec 32 := Scf.iv c0_i32_13 c1_i32_15 k1_t2
  let c512_i32 : BitVec 32 := 512#32
  let v65 : BitVec 32 := Scalar.muli arg11 c512_i32
  let v66 : Index := Scalar.indexCast v65
  let c0_34 : Index := 0#32
  ![v66.toNat, 0]
@[reducible] def k1_t3_loop : Scf.Loop 32 :=
  let c0_i32_27 : BitVec 32 := 0#32
  let c6_i32 : BitVec 32 := 6#32
  let v58 : BitVec 32 := Scalar.addi c0_i32_27 c6_i32
  let c1_i32_28 : BitVec 32 := 1#32
  ⟨c0_i32_27, v58, c1_i32_28⟩
def k1_mult1 (k1_t3 : Fin k1_t3_loop.trips) : BitVec 32 :=
  let c0_i32_27 : BitVec 32 := 0#32
  let c1_i32_28 : BitVec 32 := 1#32
  let arg11 : BitVec 32 := Scf.iv c0_i32_27 c1_i32_28 k1_t3
  let c256_i32 : BitVec 32 := 256#32
  let v65 : BitVec 32 := Scalar.muli arg11 c256_i32
  v65
def k1_off3 (k1_t3 : Fin k1_t3_loop.trips) : Fin 2 → Nat :=
  let c0_i32_27 : BitVec 32 := 0#32
  let c1_i32_28 : BitVec 32 := 1#32
  let arg11 : BitVec 32 := Scf.iv c0_i32_27 c1_i32_28 k1_t3
  let c256_i32 : BitVec 32 := 256#32
  let v65 : BitVec 32 := Scalar.muli arg11 c256_i32
  let v66 : BitVec 32 := v65
  let v67 : Index := Scalar.indexCast v66
  let c0_34 : Index := 0#32
  ![v67.toNat, 0]
def k1_off4 (k1_t3 : Fin k1_t3_loop.trips) : Fin 2 → Nat :=
  let c0_i32_27 : BitVec 32 := 0#32
  let c1_i32_28 : BitVec 32 := 1#32
  let arg11 : BitVec 32 := Scf.iv c0_i32_27 c1_i32_28 k1_t3
  let c256_i32 : BitVec 32 := 256#32
  let v65 : BitVec 32 := Scalar.muli arg11 c256_i32
  let v66 : BitVec 32 := v65
  let v70 : Index := Scalar.indexCast v66
  let c0_35 : Index := 0#32
  ![v70.toNat, 0]
def k1_mult2 (k1_t3 : Fin k1_t3_loop.trips) : BitVec 32 :=
  let c0_i32_27 : BitVec 32 := 0#32
  let c1_i32_28 : BitVec 32 := 1#32
  let arg11 : BitVec 32 := Scf.iv c0_i32_27 c1_i32_28 k1_t3
  let c128_i32 : BitVec 32 := 128#32
  let v118 : BitVec 32 := Scalar.muli arg11 c128_i32
  v118
def k1_off5 (k1_t3 : Fin k1_t3_loop.trips) : Fin 2 → Nat :=
  let c0_i32_27 : BitVec 32 := 0#32
  let c1_i32_28 : BitVec 32 := 1#32
  let arg11 : BitVec 32 := Scf.iv c0_i32_27 c1_i32_28 k1_t3
  let c128_i32 : BitVec 32 := 128#32
  let v118 : BitVec 32 := Scalar.muli arg11 c128_i32
  let v119 : BitVec 32 := v118
  let v120 : Index := Scalar.indexCast v119
  let c0_45 : Index := 0#32
  ![v120.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x9216 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S9216x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1536x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1536x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S9216x256 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S768x256 .i8 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S24x384x1536 : Shape := ⟨3, ![24, 384, 1536]⟩
abbrev S24x384x8960 : Shape := ⟨3, ![24, 384, 8960]⟩
abbrev S1536x8960 : Shape := ⟨2, ![1536, 8960]⟩
abbrev S8960 : Shape := ⟨1, ![8960]⟩
abbrev S9216x1536 : Shape := ⟨2, ![9216, 1536]⟩
abbrev S9216x8960 : Shape := ⟨2, ![9216, 8960]⟩
abbrev S1x8960 : Shape := ⟨2, ![1, 8960]⟩
abbrev S1x1536 : Shape := ⟨2, ![1, 1536]⟩
abbrev S768x8960 : Shape := ⟨2, ![768, 8960]⟩
abbrev S1536 : Shape := ⟨1, ![1536]⟩
abbrev S254x1 : Shape := ⟨2, ![254, 1]⟩
abbrev S254x1536 : Shape := ⟨2, ![254, 1536]⟩
abbrev S254x8960 : Shape := ⟨2, ![254, 8960]⟩
abbrev S1536x1 : Shape := ⟨2, ![1536, 1]⟩
abbrev S768x2x8960 : Shape := ⟨3, ![768, 2, 8960]⟩
abbrev S768x1x8960 : Shape := ⟨3, ![768, 1, 8960]⟩

abbrev nBuf : Space → Nat
  | .hbm => 19
  | .vmem => 11
  | .smem => 0
  | _ => 0

abbrev bufTy : (tb : Table) → Fin (tcTables nBuf tb) → BufTy
  | .hbm, ⟨0, _⟩ => ⟨S24x384x1536, .bf16⟩
  | .hbm, ⟨1, _⟩ => ⟨S24x384x8960, .bf16⟩
  | .hbm, ⟨2, _⟩ => ⟨S1536x8960, .f32⟩
  | .hbm, ⟨3, _⟩ => ⟨S8960, .f32⟩
  | .hbm, ⟨4, _⟩ => ⟨S9216x1536, .bf16⟩
  | .hbm, ⟨5, _⟩ => ⟨S9216x8960, .bf16⟩
  | .hbm, ⟨6, _⟩ => ⟨S1x8960, .f32⟩
  | .hbm, ⟨7, _⟩ => ⟨S1536x8960, .f32⟩
  | .hbm, ⟨8, _⟩ => ⟨S1x8960, .f32⟩
  | .hbm, ⟨9, _⟩ => ⟨S9216x1536, .fp8e4m3⟩
  | .hbm, ⟨10, _⟩ => ⟨S1x1536, .f32⟩
  | .hbm, ⟨11, _⟩ => ⟨S9216x8960, .fp8e5m2⟩
  | .hbm, ⟨12, _⟩ => ⟨S1x8960, .f32⟩
  | .hbm, ⟨13, _⟩ => ⟨S768x8960, .i8⟩
  | .hbm, ⟨14, _⟩ => ⟨S8960, .f32⟩
  | .hbm, ⟨15, _⟩ => ⟨S24x384x1536, .fp8e4m3⟩
  | .hbm, ⟨16, _⟩ => ⟨S1536, .f32⟩
  | .hbm, ⟨17, _⟩ => ⟨S24x384x8960, .fp8e5m2⟩
  | .hbm, ⟨18, _⟩ => ⟨S8960, .f32⟩
  | .local _ .vmem, ⟨0, _⟩ => ⟨S9216x1536, .bf16⟩
  | .local _ .vmem, ⟨1, _⟩ => ⟨S9216x8960, .bf16⟩
  | .local _ .vmem, ⟨2, _⟩ => ⟨S1536x8960, .f32⟩
  | .local _ .vmem, ⟨3, _⟩ => ⟨S1x8960, .f32⟩
  | .local _ .vmem, ⟨4, _⟩ => ⟨S1536x8960, .f32⟩
  | .local _ .vmem, ⟨5, _⟩ => ⟨S1x8960, .f32⟩
  | .local _ .vmem, ⟨6, _⟩ => ⟨S9216x1536, .fp8e4m3⟩
  | .local _ .vmem, ⟨7, _⟩ => ⟨S1x1536, .f32⟩
  | .local _ .vmem, ⟨8, _⟩ => ⟨S9216x8960, .fp8e5m2⟩
  | .local _ .vmem, ⟨9, _⟩ => ⟨S1x8960, .f32⟩
  | .local _ .vmem, ⟨10, _⟩ => ⟨S768x8960, .i8⟩
  | _, _ => ⟨S24x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S9216x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x8960 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9216x8960 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8960 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x8960 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRun.lean ====
/- The run of the program: both kernel calls and the host operations around them, from the buffer contents at each
   boundary to the contents at the end. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Writes that cover a whole memref leave the same contents whatever was there before. -/
theorem writes_of_cover {Val : EltTy → Type} [∀ e, Nonempty (Val e)] {κ : Kind} {sp : Space} {s : Shape} {e : EltTy}
    {m : Memref sig κ sp s e} (hw : m.IsWhole) (f : m.view.ty.Contents Val) (L : List (View.Piece Val s e))
    (hc : ∀ y : s.Idx, ∃ p ∈ L, y ∈ p.1.set) :
    m.view.writes Val f L = m.view.writes Val m.view.junk L := by
  obtain ⟨b, rfl, rfl, rfl, h⟩ := hw; cases h
  funext y
  exact View.read_writes_apply_eq (View.whole b) f (View.whole b) (View.whole b).junk y L (hc y)

set_option maxHeartbeats 1000000 in
/-- The epilogue loop's state before trip `n` does not depend on what the packed-code buffer held at the start: no trip
    reads that buffer. -/
theorem st_G10 (𝒱 : Variants) (c : Dev nD) (bd : Option 𝒱.V) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole) (v37 : FVec F S1x256 .f32) (v55 : Vec F S1x256 .f32) (X_arg2 : BufTy.Contents (Elt F) arg2.view.ty) (X_arg4 : BufTy.Contents (Elt F) arg4.view.ty) (G_arg6 : BufTy.Contents (Elt F) arg6.view.ty) (G G' : BufTy.Contents (Elt F) arg10.view.ty) (init : FVec F S8x256 .f32) (n : ℕ) :
    st_k1_t3 (F := F) 𝒱 c bd i arg1 harg1 arg2 harg2 arg3 harg3 arg4 harg4 arg5 harg5 arg6 harg6 arg7 harg7 arg8 harg8 arg9 harg9 arg10 harg10 v37 v55 X_arg2 X_arg4 G_arg6 G init n
    = st_k1_t3 (F := F) 𝒱 c bd i arg1 harg1 arg2 harg2 arg3 harg3 arg4 harg4 arg5 harg5 arg6 harg6 arg7 harg7 arg8 harg8 arg9 harg9 arg10 harg10 v37 v55 X_arg2 X_arg4 G_arg6 G' init n := by
  induction n with
  | zero => rfl
  | succ n ih =>
    rw [st_k1_t3.eq_2, st_k1_t3.eq_2, ih]
    unfold st_k1_t3Step
    split
    · rename_i h
      unfold tripR_k1_t3 tripL_k1_t3 trip_k1_t3
      rfl
    · rfl

section Regions

variable (V : (c : Dev nD) → (b : Ref sig .tc) → Buf (Elt F) ((c : Thread nD τ).loc b))

/-- The block of a window at a grid point, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of an input holds its block when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- A staging buffer of an output. -/
abbrev VO0_1 : View sig .tc .vmem S9216x256 .fp8e4m3 := (Memref.whole cc0_stg1_0 : Memref sig .tc .vmem S9216x256 .fp8e4m3).view

/-- A staging buffer of an output. -/
abbrev VO0_2 : View sig .tc .vmem S1x256 .f32 := (Memref.whole cc0_stg2_0 : Memref sig .tc .vmem S1x256 .f32).view

/-- A staging buffer of an output. -/
abbrev VO0_3 : View sig .tc .vmem S256x9216 .fp8e4m3 := (Memref.whole cc0_stg3_0 : Memref sig .tc .vmem S256x9216 .fp8e4m3).view

/-- The staging memref of a window at a point. -/
abbrev ms0_0 (t : Fin cfg0.N) : Memref sig .tc .vmem S9216x256 .bf16 := win0_0.stage (cfg0.slots t 0)
/-- It is a whole memref. -/
abbrev hs0_0 (t : Fin cfg0.N) : (ms0_0 t).IsWhole := hstage0_0 ((cfg0.slots t 0).cast nbuf0_0)
/-- The staging memref of a window at a point. -/
abbrev ms0_1 (t : Fin cfg0.N) : Memref sig .tc .vmem S9216x256 .fp8e4m3 := win0_1.stage (cfg0.slots t 1)
/-- It is a whole memref. -/
abbrev hs0_1 (t : Fin cfg0.N) : (ms0_1 t).IsWhole := hstage0_1 ((cfg0.slots t 1).cast nbuf0_1)
/-- The staging memref of a window at a point. -/
abbrev ms0_2 (t : Fin cfg0.N) : Memref sig .tc .vmem S1x256 .f32 := win0_2.stage (cfg0.slots t 2)
/-- It is a whole memref. -/
abbrev hs0_2 (t : Fin cfg0.N) : (ms0_2 t).IsWhole := hstage0_2 ((cfg0.slots t 2).cast nbuf0_2)
/-- The staging memref of a window at a point. -/
abbrev ms0_3 (t : Fin cfg0.N) : Memref sig .tc .vmem S256x9216 .fp8e4m3 := win0_3.stage (cfg0.slots t 3)
/-- It is a whole memref. -/
abbrev hs0_3 (t : Fin cfg0.N) : (ms0_3 t).IsWhole := hstage0_3 ((cfg0.slots t 3).cast nbuf0_3)

set_option maxHeartbeats 1000000 in

/-- The stores one run of the body makes, with the proof that the body makes them. -/
noncomputable def kernelRun0_A (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) :
    Σ' (L1 : List (View.Piece (Elt F) S9216x256 .fp8e4m3)), Σ' (L2 : List (View.Piece (Elt F) S1x256 .f32)), { L3 : List (View.Piece (Elt F) S256x9216 .fp8e4m3) //
      ∀ (E : Set ℕ) (K : PUnit → sProp (MT nD τ sig Unit (Elt F) ℕ (UR sig nD τ) ℕ)),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_xquant i arg1 harg1 arg2 harg2 arg3 harg3 arg4 harg4) K } := by
  refine ⟨?_, ?_, ?_, fun E K => ?run⟩
  case run =>
    simp only [cc0_xquant_eq_skeleton]; unfold cc0_xquant_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg1.eq_unread hf0
    sl_exec
    have hre : ∀ (f : BufTy.Contents (Elt F) arg2.view.ty) (v : IVec S1x256 32) (x : BitVec 32) (X : BufTy.Contents (Elt F) arg1.view.ty),
        arg2.view.writes (Elt F) f (pb_k0_t2 (F := F) Variants.none c none i arg1 harg1 arg2 harg2 arg3 harg3 arg4 harg4 v x X (Scf.trips k0_t2_loop.lb k0_t2_loop.ub k0_t2_loop.st))
          = arg2.view.writes (Elt F) arg2.view.junk (pb_k0_t2 (F := F) Variants.none c none i arg1 harg1 arg2 harg2 arg3 harg3 arg4 harg4 v x X (Scf.trips k0_t2_loop.lb k0_t2_loop.ub k0_t2_loop.st)) :=
      fun f v x X => writes_of_cover harg2 f _ (fun y => View.cover_of_tiledL (pb_k0_t2 (F := F) Variants.none c none i arg1 harg1 arg2 harg2 arg3 harg3 arg4 harg4 v x X (Scf.trips k0_t2_loop.lb k0_t2_loop.ub k0_t2_loop.st)) S512x256.size (by sl_kernel_rfl) y)
    rw [hre f1]
    sl_step
    iapply Hk
    isplitl [H0]
    · iexists _; isplitr; · ipureintro; exact harg1.read_unread _
      iexact H0
    isplitl [H1]; · iexists _; iexact H1
    isplitl [H2]; · iexists _; iexact H2
    iexists _; iexact H3

/-- The stores of the run cover the whole block of this output. -/
theorem cover0_A_1 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) (y : S9216x256.Idx) :
    ∃ pc ∈ (kernelRun0_A c i arg1 harg1 arg2 harg2 arg3 harg3 arg4 harg4 x0).1, y ∈ pc.1.set :=
  View.cover_of_tiledL (kernelRun0_A c i arg1 harg1 arg2 harg2 arg3 harg3 arg4 harg4 x0).1 S512x256.size (by sl_kernel_rfl) y

/-- What the body leaves in this output block. -/
def out0_A_1 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) : Vec F S9216x256 .fp8e4m3 :=
  VO0_1.read (Elt F) (VO0_1.writes (Elt F) VO0_1.junk (kernelRun0_A c i arg1 harg1 arg2 harg2 arg3 harg3 arg4 harg4 x0).1)

/-- The stores of the run cover the whole block of this output. -/
theorem cover0_A_2 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) (y : S1x256.Idx) :
    ∃ pc ∈ (kernelRun0_A c i arg1 harg1 arg2 harg2 arg3 harg3 arg4 harg4 x0).2.1, y ∈ pc.1.set :=
  View.cover_of_tiledL (kernelRun0_A c i arg1 harg1 arg2 harg2 arg3 harg3 arg4 harg4 x0).2.1 S1x256.size (by sl_kernel_rfl) y

/-- What the body leaves in this output block. -/
def out0_A_2 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) : Vec F S1x256 .f32 :=
  VO0_2.read (Elt F) (VO0_2.writes (Elt F) VO0_2.junk (kernelRun0_A c i arg1 harg1 arg2 harg2 arg3 harg3 arg4 harg4 x0).2.1)

/-- The stores of the run cover the whole block of this output. -/
theorem cover0_A_3 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) (y : S256x9216.Idx) :
    ∃ pc ∈ (kernelRun0_A c i arg1 harg1 arg2 harg2 arg3 harg3 arg4 harg4 x0).2.2.1, y ∈ pc.1.set :=
  View.cover_of_tiledL (kernelRun0_A c i arg1 harg1 arg2 harg2 arg3 harg3 arg4 harg4 x0).2.2.1 S256x512.size (by sl_kernel_rfl) y

/-- What the body leaves in this output block. -/
def out0_A_3 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) : Vec F S256x9216 .fp8e4m3 :=
  VO0_3.read (Elt F) (VO0_3.writes (Elt F) VO0_3.junk (kernelRun0_A c i arg1 harg1 arg2 harg2 arg3 harg3 arg4 harg4 x0).2.2.1)

/-- What the output blocks hold after a grid point. -/
def outsAt0 (c : Dev nD) (t : Fin cfg0.N) : Vec F S9216x256 .fp8e4m3 × Vec F S1x256 .f32 × Vec F S256x9216 .fp8e4m3 :=
  (out0_A_1 c (grid0.coords t) (ms0_0 t) (hs0_0 t) (ms0_1 t) (hs0_1 t) (ms0_2 t) (hs0_2 t) (ms0_3 t) (hs0_3 t) (iblk0 V c 0 t), out0_A_2 c (grid0.coords t) (ms0_0 t) (hs0_0 t) (ms0_1 t) (hs0_1 t) (ms0_2 t) (hs0_2 t) (ms0_3 t) (hs0_3 t) (iblk0 V c 0 t), out0_A_3 c (grid0.coords t) (ms0_0 t) (hs0_0 t) (ms0_1 t) (hs0_1 t) (ms0_2 t) (hs0_2 t) (ms0_3 t) (hs0_3 t) (iblk0 V c 0 t))

/-- The data of the pipeline: arrays at entry, and buffers after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2
  Φ _ := Pipeline.ΦA spec0 c
  q _ := fullShare
  owed _ := 0

/-- The arrays of the pipeline are the contents at entry. -/
theorem A_eq0 (c : Dev nD) (w : Fin cfg0.W) : (dat0 V c).A w = V c (Pipeline.arrRef spec0 w) := by
  dsimp only [dat0]

/-- What the body leaves in the staging buffer of this window. -/
theorem after0_0 (c : Dev nD) (t : Fin cfg0.N) : (dat0 V c).after 0 t = iblk0 V c 0 t := by dsimp only [dat0]
/-- What the body leaves in the staging buffer of this window. -/
theorem after0_1 (c : Dev nD) (t : Fin cfg0.N) : (dat0 V c).after 1 t = (outsAt0 V c t).1 := by dsimp only [dat0]
/-- What the body leaves in the staging buffer of this window. -/
theorem after0_2 (c : Dev nD) (t : Fin cfg0.N) : (dat0 V c).after 2 t = (outsAt0 V c t).2.1 := by dsimp only [dat0]
/-- What the body leaves in the staging buffer of this window. -/
theorem after0_3 (c : Dev nD) (t : Fin cfg0.N) : (dat0 V c).after 3 t = (outsAt0 V c t).2.2 := by dsimp only [dat0]

/-- The staging buffer of an input holds its block when the body starts. -/
theorem before0_0 (c : Dev nD) (t : Fin cfg0.N) (d) : (dat0 V c).before 0 t d = iblk0 V c 0 t :=
  before0_0_of V (dat0 V c) (A_eq0 V c 0) (after0_0 V c) t d

/-- What the body is called with. -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What the body returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body, run at any grid point, takes its precondition to its postcondition. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_1 out0_A_2 out0_A_3; (try dsimp only)
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t)).2.2.2 Set.univ _)
  isplitl [H0]; · iexact H0
  isplitl [H1]; · iexists _; iexact H1
  isplitl [H2]; · iexists _; iexact H2
  isplitl [H3]; · iexists _; iexact H3
  iintro ⟨H0, ⟨%e1, H1⟩, ⟨%e2, H2⟩, ⟨%e3, H3⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _)
  isplitl [H2]
  · unfold owns; iexists _; isplitr
    swap; · iexact H2
    ipureintro; exact View.read_writes_of_cover _ _ _ _ _ (cover0_A_2 c _ _ _ _ _ _ _ _ _ _)
  unfold owns; iexists _; isplitr
  swap; · iexact H3
  ipureintro; exact View.read_writes_of_cover _ _ _ _ _ (cover0_A_3 c _ _ _ _ _ _ _ _ _ _)

/-- The body table at a grid point. -/
theorem defs₀_row0 (t : Fin cfg0.N) :
    defs₀ (F := F) .tc cfg0.body (cfg0.bodyArgs t (cfg0.slots t)) = bodyAt0 t := by
  unfold defs₀; rw [Defs.onTc_tc]

/-- The body meets what the pipeline asks of it at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of a window at a grid point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of an input holds its block when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- A staging buffer of an output. -/
abbrev VO1_5 : View sig .tc .vmem S1536x256 .f32 := (Memref.whole cc1_stg5_0 : Memref sig .tc .vmem S1536x256 .f32).view

/-- A staging buffer of an output. -/
abbrev VO1_6 : View sig .tc .vmem S1x256 .f32 := (Memref.whole cc1_stg6_0 : Memref sig .tc .vmem S1x256 .f32).view

/-- A staging buffer of an output. -/
abbrev VO1_7 : View sig .tc .vmem S9216x256 .fp8e5m2 := (Memref.whole cc1_stg7_0 : Memref sig .tc .vmem S9216x256 .fp8e5m2).view

/-- A staging buffer of an output. -/
abbrev VO1_8 : View sig .tc .vmem S1x256 .f32 := (Memref.whole cc1_stg8_0 : Memref sig .tc .vmem S1x256 .f32).view

/-- A staging buffer of an output. -/
abbrev VO1_9 : View sig .tc .vmem S768x256 .i8 := (Memref.whole cc1_stg9_0 : Memref sig .tc .vmem S768x256 .i8).view

/-- The staging memref of a window at a point. -/
abbrev ms1_0 (t : Fin cfg1.N) : Memref sig .tc .vmem S1536x9216 .fp8e4m3 := win1_0.stage (cfg1.slots t 0)
/-- It is a whole memref. -/
abbrev hs1_0 (t : Fin cfg1.N) : (ms1_0 t).IsWhole := hstage1_0 ((cfg1.slots t 0).cast nbuf1_0)
/-- The staging memref of a window at a point. -/
abbrev ms1_1 (t : Fin cfg1.N) : Memref sig .tc .vmem S1536x128 .f32 := win1_1.stage (cfg1.slots t 1)
/-- It is a whole memref. -/
abbrev hs1_1 (t : Fin cfg1.N) : (ms1_1 t).IsWhole := hstage1_1 ((cfg1.slots t 1).cast nbuf1_1)
/-- The staging memref of a window at a point. -/
abbrev ms1_2 (t : Fin cfg1.N) : Memref sig .tc .vmem S9216x256 .bf16 := win1_2.stage (cfg1.slots t 2)
/-- It is a whole memref. -/
abbrev hs1_2 (t : Fin cfg1.N) : (ms1_2 t).IsWhole := hstage1_2 ((cfg1.slots t 2).cast nbuf1_2)
/-- The staging memref of a window at a point. -/
abbrev ms1_3 (t : Fin cfg1.N) : Memref sig .tc .vmem S1536x256 .f32 := win1_3.stage (cfg1.slots t 3)
/-- It is a whole memref. -/
abbrev hs1_3 (t : Fin cfg1.N) : (ms1_3 t).IsWhole := hstage1_3 ((cfg1.slots t 3).cast nbuf1_3)
/-- The staging memref of a window at a point. -/
abbrev ms1_4 (t : Fin cfg1.N) : Memref sig .tc .vmem S1x256 .f32 := win1_4.stage (cfg1.slots t 4)
/-- It is a whole memref. -/
abbrev hs1_4 (t : Fin cfg1.N) : (ms1_4 t).IsWhole := hstage1_4 ((cfg1.slots t 4).cast nbuf1_4)
/-- The staging memref of a window at a point. -/
abbrev ms1_5 (t : Fin cfg1.N) : Memref sig .tc .vmem S1536x256 .f32 := win1_5.stage (cfg1.slots t 5)
/-- It is a whole memref. -/
abbrev hs1_5 (t : Fin cfg1.N) : (ms1_5 t).IsWhole := hstage1_5 ((cfg1.slots t 5).cast nbuf1_5)
/-- The staging memref of a window at a point. -/
abbrev ms1_6 (t : Fin cfg1.N) : Memref sig .tc .vmem S1x256 .f32 := win1_6.stage (cfg1.slots t 6)
/-- It is a whole memref. -/
abbrev hs1_6 (t : Fin cfg1.N) : (ms1_6 t).IsWhole := hstage1_6 ((cfg1.slots t 6).cast nbuf1_6)
/-- The staging memref of a window at a point. -/
abbrev ms1_7 (t : Fin cfg1.N) : Memref sig .tc .vmem S9216x256 .fp8e5m2 := win1_7.stage (cfg1.slots t 7)
/-- It is a whole memref. -/
abbrev hs1_7 (t : Fin cfg1.N) : (ms1_7 t).IsWhole := hstage1_7 ((cfg1.slots t 7).cast nbuf1_7)
/-- The staging memref of a window at a point. -/
abbrev ms1_8 (t : Fin cfg1.N) : Memref sig .tc .vmem S1x256 .f32 := win1_8.stage (cfg1.slots t 8)
/-- It is a whole memref. -/
abbrev hs1_8 (t : Fin cfg1.N) : (ms1_8 t).IsWhole := hstage1_8 ((cfg1.slots t 8).cast nbuf1_8)
/-- The staging memref of a window at a point. -/
abbrev ms1_9 (t : Fin cfg1.N) : Memref sig .tc .vmem S768x256 .i8 := win1_9.stage (cfg1.slots t 9)
/-- It is a whole memref. -/
abbrev hs1_9 (t : Fin cfg1.N) : (ms1_9 t).IsWhole := hstage1_9 ((cfg1.slots t 9).cast nbuf1_9)

set_option backward.proofsInPublic true in
set_option maxHeartbeats 1000000 in

/-- The stores one run of the body makes, with the proof that the body makes them. -/
noncomputable def kernelRun1_A (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) :
    Σ' (L5 : List (View.Piece (Elt F) S1536x256 .f32)), Σ' (L6 : List (View.Piece (Elt F) S1x256 .f32)), Σ' (L7 : List (View.Piece (Elt F) S9216x256 .fp8e5m2)), Σ' (L8 : List (View.Piece (Elt F) S1x256 .f32)), { L9 : List (View.Piece (Elt F) S768x256 .i8) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_main i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1_main_eq_skeleton]; unfold cc1_main_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole) (v39 : IVec S1x256 32) (c23_i32_10 : BitVec 32) (X_arg3 : BufTy.Contents (Elt F) arg3.view.ty) (hrdF : BufTy.Contents (Elt F) arg8.view.ty) (hrdB : LoadRect S9216x256), arg8.view.readAt (Elt F) hrdB (arg8.view.writes (Elt F) hrdF (pb_k1_t2 (F := F) 𝒱 c bd i arg1 harg1 arg2 harg2 arg3 harg3 arg4 harg4 arg5 harg5 arg6 harg6 arg7 harg7 arg8 harg8 arg9 harg9 arg10 harg10 v39 c23_i32_10 X_arg3 (Scf.trips k1_t2_loop.lb k1_t2_loop.ub k1_t2_loop.st))) = arg8.view.readCov (pb_k1_t2 (F := F) 𝒱 c bd i arg1 harg1 arg2 harg2 arg3 harg3 arg4 harg4 arg5 harg5 arg6 harg6 arg7 harg7 arg8 harg8 arg9 harg9 arg10 harg10 v39 c23_i32_10 X_arg3 (Scf.trips k1_t2_loop.lb k1_t2_loop.ub k1_t2_loop.st)) hrdB := fun 𝒱 c bd i arg1 harg1 arg2 harg2 arg3 harg3 arg4 harg4 arg5 harg5 arg6 harg6 arg7 harg7 arg8 harg8 arg9 harg9 arg10 harg10 v39 c23_i32_10 X_arg3 hrdF hrdB => View.readAt_writes_of_cover _ hrdF _ hrdB (fun hrdJ => View.cover_of_tiledL (pb_k1_t2 (F := F) 𝒱 c bd i arg1 harg1 arg2 harg2 arg3 harg3 arg4 harg4 arg5 harg5 arg6 harg6 arg7 harg7 arg8 harg8 arg9 harg9 arg10 harg10 v39 c23_i32_10 X_arg3 (Scf.trips k1_t2_loop.lb k1_t2_loop.ub k1_t2_loop.st)) S512x256.size (by sl_kernel_rfl) (hrdB.idx hrdJ))
    sl_exec
    rw [st_G10 Variants.none c none i arg1 harg1 arg2 harg2 arg3 harg3 arg4 harg4 arg5 harg5 arg6 harg6 arg7 harg7 arg8 harg8 arg9 harg9 arg10 harg10 _ _ _ _ _ f9 arg10.view.junk]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

/-- The stores of the run cover the whole block of this output. -/
theorem cover1_A_5 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S1536x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledBy (kernelRun1_A c i arg1 harg1 arg2 harg2 arg3 harg3 arg4 harg4 arg5 harg5 arg6 harg6 arg7 harg7 arg8 harg8 arg9 harg9 arg10 harg10 x0 x1 x2 x3 x4).1 ![256, 256] (by sl_kernel_rfl) y

/-- What the body leaves in this output block. -/
def out1_A_5 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S1536x256 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 x0 x1 x2 x3 x4).1)

/-- The stores of the run cover the whole block of this output. -/
theorem cover1_A_6 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.1 S1x256.size (by sl_kernel_rfl) y

/-- What the body leaves in this output block. -/
def out1_A_6 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S1x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 x0 x1 x2 x3 x4).2.1)

/-- The stores of the run cover the whole block of this output. -/
theorem cover1_A_7 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S9216x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.2.1 S512x256.size (by sl_kernel_rfl) y

/-- What the body leaves in this output block. -/
def out1_A_7 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S9216x256 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 x0 x1 x2 x3 x4).2.2.1)

/-- The stores of the run cover the whole block of this output. -/
theorem cover1_A_8 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.2.2.1 S1x256.size (by sl_kernel_rfl) y

/-- What the body leaves in this output block. -/
def out1_A_8 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S1x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 x0 x1 x2 x3 x4).2.2.2.1)

/-- The stores of the run cover the whole block of this output. -/
theorem cover1_A_9 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S768x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.2.2.2.1 S128x256.size (by sl_kernel_rfl) y

/-- What the body leaves in this output block. -/
def out1_A_9 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S768x256 .i8 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 x0 x1 x2 x3 x4).2.2.2.2.1)

/-- What the output blocks hold after a grid point. -/
def outsAt1 (c : Dev nD) (t : Fin cfg1.N) : Vec F S1536x256 .f32 × Vec F S1x256 .f32 × Vec F S9216x256 .fp8e5m2 × Vec F S1x256 .f32 × Vec F S768x256 .i8 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t))

/-- The data of the pipeline: arrays at entry, and buffers after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2.1
    | ⟨7, _⟩ => (outsAt1 V c t).2.2.1
    | ⟨8, _⟩ => (outsAt1 V c t).2.2.2.1
    | ⟨9, _⟩ => (outsAt1 V c t).2.2.2.2
  Φ _ := Pipeline.ΦA spec1 c
  q _ := fullShare
  owed _ := 0

/-- The arrays of the pipeline are the contents at entry. -/
theorem A_eq1 (c : Dev nD) (w : Fin cfg1.W) : (dat1 V c).A w = V c (Pipeline.arrRef spec1 w) := by
  dsimp only [dat1]

/-- What the body leaves in the staging buffer of this window. -/
theorem after1_0 (c : Dev nD) (t : Fin cfg1.N) : (dat1 V c).after 0 t = iblk1 V c 0 t := by dsimp only [dat1]
/-- What the body leaves in the staging buffer of this window. -/
theorem after1_1 (c : Dev nD) (t : Fin cfg1.N) : (dat1 V c).after 1 t = iblk1 V c 1 t := by dsimp only [dat1]
/-- What the body leaves in the staging buffer of this window. -/
theorem after1_2 (c : Dev nD) (t : Fin cfg1.N) : (dat1 V c).after 2 t = iblk1 V c 2 t := by dsimp only [dat1]
/-- What the body leaves in the staging buffer of this window. -/
theorem after1_3 (c : Dev nD) (t : Fin cfg1.N) : (dat1 V c).after 3 t = iblk1 V c 3 t := by dsimp only [dat1]
/-- What the body leaves in the staging buffer of this window. -/
theorem after1_4 (c : Dev nD) (t : Fin cfg1.N) : (dat1 V c).after 4 t = iblk1 V c 4 t := by dsimp only [dat1]
/-- What the body leaves in the staging buffer of this window. -/
theorem after1_5 (c : Dev nD) (t : Fin cfg1.N) : (dat1 V c).after 5 t = (outsAt1 V c t).1 := by dsimp only [dat1]
/-- What the body leaves in the staging buffer of this window. -/
theorem after1_6 (c : Dev nD) (t : Fin cfg1.N) : (dat1 V c).after 6 t = (outsAt1 V c t).2.1 := by dsimp only [dat1]
/-- What the body leaves in the staging buffer of this window. -/
theorem after1_7 (c : Dev nD) (t : Fin cfg1.N) : (dat1 V c).after 7 t = (outsAt1 V c t).2.2.1 := by dsimp only [dat1]
/-- What the body leaves in the staging buffer of this window. -/
theorem after1_8 (c : Dev nD) (t : Fin cfg1.N) : (dat1 V c).after 8 t = (outsAt1 V c t).2.2.2.1 := by dsimp only [dat1]
/-- What the body leaves in the staging buffer of this window. -/
theorem after1_9 (c : Dev nD) (t : Fin cfg1.N) : (dat1 V c).after 9 t = (outsAt1 V c t).2.2.2.2 := by dsimp only [dat1]

/-- The staging buffer of an input holds its block when the body starts. -/
theorem before1_0 (c : Dev nD) (t : Fin cfg1.N) (d) : (dat1 V c).before 0 t d = iblk1 V c 0 t :=
  before1_0_of V (dat1 V c) (A_eq1 V c 0) (after1_0 V c) t d
/-- The staging buffer of an input holds its block when the body starts. -/
theorem before1_1 (c : Dev nD) (t : Fin cfg1.N) (d) : (dat1 V c).before 1 t d = iblk1 V c 1 t :=
  before1_1_of V (dat1 V c) (A_eq1 V c 1) (after1_1 V c) t d
/-- The staging buffer of an input holds its block when the body starts. -/
theorem before1_2 (c : Dev nD) (t : Fin cfg1.N) (d) : (dat1 V c).before 2 t d = iblk1 V c 2 t :=
  before1_2_of V (dat1 V c) (A_eq1 V c 2) (after1_2 V c) t d
/-- The staging buffer of an input holds its block when the body starts. -/
theorem before1_3 (c : Dev nD) (t : Fin cfg1.N) (d) : (dat1 V c).before 3 t d = iblk1 V c 3 t :=
  before1_3_of V (dat1 V c) (A_eq1 V c 3) (after1_3 V c) t d
/-- The staging buffer of an input holds its block when the body starts. -/
theorem before1_4 (c : Dev nD) (t : Fin cfg1.N) (d) : (dat1 V c).before 4 t d = iblk1 V c 4 t :=
  before1_4_of V (dat1 V c) (A_eq1 V c 4) (after1_4 V c) t d

/-- What the body is called with. -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What the body returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 800000 in

/-- The body, run at any grid point, takes its precondition to its postcondition. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold outsAt1
  unfold out1_A_5 out1_A_6 out1_A_7 out1_A_8 out1_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c (grid1.coords t) _ _ _ _ _ _ _ _ _ _ _ _ _ _ _ _ _ _ _ _ (iblk1 V c 0 t) (iblk1 V c 1 t) (iblk1 V c 2 t) (iblk1 V c 3 t) (iblk1 V c 4 t)).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _)
  unfold owns; iexists _; isplitr
  swap; · iexact H9
  ipureintro; exact View.read_writes_of_cover _ _ _ _ _ (cover1_A_9 c _ _ _ _ _ _ _ _ _ _ _ _ _ _ _ _ _ _ _ _ _ _ _ _ _ _)

/-- The body table at a grid point. -/
theorem defs₀_row1 (t : Fin cfg1.N) :
    defs₀ (F := F) .tc cfg1.body (cfg1.bodyArgs t (cfg1.slots t)) = bodyAt1 t := by
  unfold defs₀; rw [Defs.onTc_tc]

/-- The body meets what the pipeline asks of it at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-- A definition the run is stated with. -/
abbrev argRefs : List (Ref sig .tc) := [main_arg0, main_arg1, main_arg2, main_arg3]

/-- A fact about the segments of the program. -/
theorem hostOps0_fresh : (hostOps0 : List (HloOp τ sig (Elt F))).Forall fun op => op.fresh = ∅ := by
  simp only [List.Forall]; repeat' constructor

/-- A definition the run is stated with. -/
abbrev hostOps0_W : List (Ref sig .tc) := [main_v0, main_v1]
/-- A fact about the segments of the program. -/
theorem hostOps0_writes : (hostOps0 : List (HloOp τ sig (Elt F))).Forall fun op => op.writes ⊆ (hostOps0_W.map (Proc.devRef (τ := τ) .tc)).toFinset :=
  StableHlo.forall_writes_sub_of_map rfl

/-- A fact about the segments of the program. -/
theorem hostOps0_args : ∀ a ∈ argRefs, a ∉ hostOps0_W := ListAll.forall_mem_of_all_decide (by decide +kernel)

/-- A fact about the segments of the program. -/
theorem hostOps1_fresh : (hostOps1 : List (HloOp τ sig (Elt F))).Forall fun op => op.fresh = ∅ := by
  simp only [List.Forall]; repeat' constructor

/-- A definition the run is stated with. -/
abbrev hostOps1_W : List (Ref sig .tc) := [main_v3, main_v4, main_v5]
/-- A fact about the segments of the program. -/
theorem hostOps1_writes : (hostOps1 : List (HloOp τ sig (Elt F))).Forall fun op => op.writes ⊆ (hostOps1_W.map (Proc.devRef (τ := τ) .tc)).toFinset :=
  StableHlo.forall_writes_sub_of_map rfl

/-- A fact about the segments of the program. -/
theorem hostOps1_args : ∀ a ∈ argRefs, a ∉ hostOps1_W := ListAll.forall_mem_of_all_decide (by decide +kernel)

/-- A fact about the segments of the program. -/
theorem hostOps2_fresh : (hostOps2 : List (HloOp τ sig (Elt F))).Forall fun op => op.fresh = ∅ := by
  simp only [List.Forall]; repeat' constructor

/-- A definition the run is stated with. -/
abbrev hostOps2_W : List (Ref sig .tc) := [main_v7, main_v8, main_v9, main_v10, main_v11]
/-- A fact about the segments of the program. -/
theorem hostOps2_writes : (hostOps2 : List (HloOp τ sig (Elt F))).Forall fun op => op.writes ⊆ (hostOps2_W.map (Proc.devRef (τ := τ) .tc)).toFinset :=
  StableHlo.forall_writes_sub_of_map rfl

/-- A fact about the segments of the program. -/
theorem hostOps2_args : ∀ a ∈ argRefs, a ∉ hostOps2_W := ListAll.forall_mem_of_all_decide (by decide +kernel)

/-- Buffer contents at a segment boundary. -/
abbrev W0 : Dev nD → Valuation τ sig (Elt F) := fun c b => (s₀ m ρ).mem ((c : Dev nD), b)
/-- Buffer contents at a segment boundary. -/
theorem W0_args (c : Dev nD) : ∀ a ∈ argRefs, W0 m ρ c (Proc.devRef .tc a) = m ((c : Thread nD τ).loc a) := fun _ _ => rfl

/-- Buffer contents at a segment boundary. -/
abbrev W1 : Dev nD → Valuation τ sig (Elt F) := fun c => StableHlo.after hostOps0 (W0 m ρ c)

/-- Buffer contents at a segment boundary. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Buffer contents at a segment boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- A definition the run is stated with. -/
abbrev V1 : (c : Dev nD) → (b : Ref sig .tc) → Buf (Elt F) ((c : Thread nD τ).loc b) := fun c b => W1 m ρ c b

/-- Buffer contents at a segment boundary. -/
def W2 (c : Dev nD) : Valuation τ sig (Elt F) :=
  Pipeline.withArrays spec0 c (W1 m ρ c) fun w => (dat0 (V1 m ρ) c).arrAt w cfg0.N
/-- Buffer contents at a segment boundary. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Buffer contents at a segment boundary. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- Buffer contents at a segment boundary. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

/-- A fact about the segments of the program. -/
theorem argsIn0 : ∀ a ∈ argRefs, ∀ w : Fin cfg0.W, Pipeline.arrRef spec0 w = a → (cfg0.win w).isOut = false :=
  ListAll.forall_mem_of_all_decide (by decide +kernel)
/-- Buffer contents at a segment boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)

/-- A definition the run is stated with. -/
abbrev V2 : (c : Dev nD) → (b : Ref sig .tc) → Buf (Elt F) ((c : Thread nD τ).loc b) := fun c b => W2 m ρ c b

/-- A fact about the segments of the program. -/
theorem hF0 (c : Dev nD) (w : Fin cfg0.W) : (dat0 (V1 m ρ) c).arrAt w cfg0.N = V2 m ρ c (Pipeline.arrRef spec0 w) :=
  (W2_arr m ρ c w).symm
/-- A fact about the segments of the program. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Buffer contents at a segment boundary. -/
abbrev W3 : Dev nD → Valuation τ sig (Elt F) := fun c => StableHlo.after hostOps1 (W2 m ρ c)

/-- Buffer contents at a segment boundary. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Buffer contents at a segment boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)

/-- A definition the run is stated with. -/
abbrev V3 : (c : Dev nD) → (b : Ref sig .tc) → Buf (Elt F) ((c : Thread nD τ).loc b) := fun c b => W3 m ρ c b

/-- Buffer contents at a segment boundary. -/
def W4 (c : Dev nD) : Valuation τ sig (Elt F) :=
  Pipeline.withArrays spec1 c (W3 m ρ c) fun w => (dat1 (V3 m ρ) c).arrAt w cfg1.N
/-- Buffer contents at a segment boundary. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- Buffer contents at a segment boundary. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- Buffer contents at a segment boundary. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

/-- A fact about the segments of the program. -/
theorem argsIn1 : ∀ a ∈ argRefs, ∀ w : Fin cfg1.W, Pipeline.arrRef spec1 w = a → (cfg1.win w).isOut = false :=
  ListAll.forall_mem_of_all_decide (by decide +kernel)
/-- Buffer contents at a segment boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)

/-- A definition the run is stated with. -/
abbrev V4 : (c : Dev nD) → (b : Ref sig .tc) → Buf (Elt F) ((c : Thread nD τ).loc b) := fun c b => W4 m ρ c b

/-- A fact about the segments of the program. -/
theorem hF1 (c : Dev nD) (w : Fin cfg1.W) : (dat1 (V3 m ρ) c).arrAt w cfg1.N = V4 m ρ c (Pipeline.arrRef spec1 w) :=
  (W4_arr m ρ c w).symm
/-- A fact about the segments of the program. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Buffer contents at a segment boundary. -/
abbrev W5 : Dev nD → Valuation τ sig (Elt F) := fun c => StableHlo.after hostOps2 (W4 m ρ c)

/-- Buffer contents at a segment boundary. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- Buffer contents at a segment boundary. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-- Buffer contents at a segment boundary. -/
theorem W5_main_arg0 (c : Dev nD) : W5 m ρ c (Proc.devRef .tc main_arg0) = m ((c : Thread nD τ).loc main_arg0) :=
  W5_args m ρ c main_arg0 (by decide)
/-- Buffer contents at a segment boundary. -/
theorem W5_main_arg1 (c : Dev nD) : W5 m ρ c (Proc.devRef .tc main_arg1) = m ((c : Thread nD τ).loc main_arg1) :=
  W5_args m ρ c main_arg1 (by decide)
/-- Buffer contents at a segment boundary. -/
theorem W5_main_arg2 (c : Dev nD) : W5 m ρ c (Proc.devRef .tc main_arg2) = m ((c : Thread nD τ).loc main_arg2) :=
  W5_args m ρ c main_arg2 (by decide)
/-- Buffer contents at a segment boundary. -/
theorem W5_main_arg3 (c : Dev nD) : W5 m ρ c (Proc.devRef .tc main_arg3) = m ((c : Thread nD τ).loc main_arg3) :=
  W5_args m ρ c main_arg3 (by decide)

/-- A definition the run is stated with. -/
abbrev adm : (p : Fin 2) → (pcfgs (F := F) p).Adm := fun p => (cfgs p).toPCfg_adm

/-- A definition the run is stated with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- A definition the run is stated with. -/
abbrev 𝒱₀ : Variants := Variants.none

/-- A definition the run is stated with. -/
abbrev L : GSem nD τ sig → Finset Unit := fun _ => ∅
/-- A definition the run is stated with. -/
abbrev lv : GSem nD τ sig → Unit → ℕ := fun _ _ => 0

/-- A definition the run is stated with. -/
abbrev R (c : Dev nD) : sProp (MT nD τ sig Unit (Elt F) ℕ (UR sig nD τ) ℕ) := iprop((∃ r, prngReg c r) ∗ ∃ W, owes (c : Thread nD τ) (0 : CellTallies nD τ sig Unit) W)

/-- It is a whole memref. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A fact about the segments of the program. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A definition the run is stated with. -/
abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

set_option backward.isDefEq.respectTransparency.types false in

/-- A kernel call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- A kernel call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments of the program. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- A fact about the segments of the program. -/
theorem main_run (c : Dev nD) : main (F := F) c = Pipeline.Seg.run (segs m ρ) := (main_chain c).trans (by chain_rfl)

/-- A fact about the segments of the program. -/
theorem no_unscoped : ∀ sm : SemLoc sig, sm.isScoped .tc = true := by decide

set_option backward.isDefEq.respectTransparency.types false in
/-- Every weakly fair execution of the program terminates; each buffer then holds the contents the last boundary
    gives it, and every semaphore counter is zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The program ends with its argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (ends m ρ)

end Cert.Kernel.Run

end
-- ==== Proof.IdealRun.lean ====
/- The run of the program: both kernel calls and the host operations around them, from the buffer contents at each
   boundary to the contents at the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Writes that cover a whole memref leave the same contents whatever was there before. -/
theorem writes_of_cover {Val : EltTy → Type} [∀ e, Nonempty (Val e)] {κ : Kind} {sp : Space} {s : Shape} {e : EltTy}
    {m : Memref sig κ sp s e} (hw : m.IsWhole) (f : m.view.ty.Contents Val) (L : List (View.Piece Val s e))
    (hc : ∀ y : s.Idx, ∃ p ∈ L, y ∈ p.1.set) :
    m.view.writes Val f L = m.view.writes Val m.view.junk L := by
  obtain ⟨b, rfl, rfl, rfl, h⟩ := hw; cases h
  funext y
  exact View.read_writes_apply_eq (View.whole b) f (View.whole b) (View.whole b).junk y L (hc y)

set_option maxHeartbeats 1000000 in
/-- The epilogue loop's state before trip `n` does not depend on what the packed-code buffer held at the start: no trip
    reads that buffer. -/
theorem st_G10 (𝒱 : Variants) (c : Dev nD) (bd : Option 𝒱.V) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole) (v37 : FVec F S1x256 .f32) (v55 : Vec F S1x256 .f32) (X_arg2 : BufTy.Contents (Elt F) arg2.view.ty) (X_arg4 : BufTy.Contents (Elt F) arg4.view.ty) (G_arg6 : BufTy.Contents (Elt F) arg6.view.ty) (G G' : BufTy.Contents (Elt F) arg10.view.ty) (init : FVec F S8x256 .f32) (n : ℕ) :
    st_k1_t3 (F := F) 𝒱 c bd i arg1 harg1 arg2 harg2 arg3 harg3 arg4 harg4 arg5 harg5 arg6 harg6 arg7 harg7 arg8 harg8 arg9 harg9 arg10 harg10 v37 v55 X_arg2 X_arg4 G_arg6 G init n
    = st_k1_t3 (F := F) 𝒱 c bd i arg1 harg1 arg2 harg2 arg3 harg3 arg4 harg4 arg5 harg5 arg6 harg6 arg7 harg7 arg8 harg8 arg9 harg9 arg10 harg10 v37 v55 X_arg2 X_arg4 G_arg6 G' init n := by
  induction n with
  | zero => rfl
  | succ n ih =>
    rw [st_k1_t3.eq_2, st_k1_t3.eq_2, ih]
    unfold st_k1_t3Step
    split
    · rename_i h
      unfold tripR_k1_t3 tripL_k1_t3 trip_k1_t3
      rfl
    · rfl

section Regions

variable (V : (c : Dev nD) → (b : Ref sig .tc) → Buf (Elt F) ((c : Thread nD τ).loc b))

/-- The block of a window at a grid point, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of an input holds its block when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- A staging buffer of an output. -/
abbrev VO0_1 : View sig .tc .vmem S9216x256 .fp8e4m3 := (Memref.whole cc0_stg1_0 : Memref sig .tc .vmem S9216x256 .fp8e4m3).view

/-- A staging buffer of an output. -/
abbrev VO0_2 : View sig .tc .vmem S1x256 .f32 := (Memref.whole cc0_stg2_0 : Memref sig .tc .vmem S1x256 .f32).view

/-- A staging buffer of an output. -/
abbrev VO0_3 : View sig .tc .vmem S256x9216 .fp8e4m3 := (Memref.whole cc0_stg3_0 : Memref sig .tc .vmem S256x9216 .fp8e4m3).view

/-- The staging memref of a window at a point. -/
abbrev ms0_0 (t : Fin cfg0.N) : Memref sig .tc .vmem S9216x256 .bf16 := win0_0.stage (cfg0.slots t 0)
/-- It is a whole memref. -/
abbrev hs0_0 (t : Fin cfg0.N) : (ms0_0 t).IsWhole := hstage0_0 ((cfg0.slots t 0).cast nbuf0_0)
/-- The staging memref of a window at a point. -/
abbrev ms0_1 (t : Fin cfg0.N) : Memref sig .tc .vmem S9216x256 .fp8e4m3 := win0_1.stage (cfg0.slots t 1)
/-- It is a whole memref. -/
abbrev hs0_1 (t : Fin cfg0.N) : (ms0_1 t).IsWhole := hstage0_1 ((cfg0.slots t 1).cast nbuf0_1)
/-- The staging memref of a window at a point. -/
abbrev ms0_2 (t : Fin cfg0.N) : Memref sig .tc .vmem S1x256 .f32 := win0_2.stage (cfg0.slots t 2)
/-- It is a whole memref. -/
abbrev hs0_2 (t : Fin cfg0.N) : (ms0_2 t).IsWhole := hstage0_2 ((cfg0.slots t 2).cast nbuf0_2)
/-- The staging memref of a window at a point. -/
abbrev ms0_3 (t : Fin cfg0.N) : Memref sig .tc .vmem S256x9216 .fp8e4m3 := win0_3.stage (cfg0.slots t 3)
/-- It is a whole memref. -/
abbrev hs0_3 (t : Fin cfg0.N) : (ms0_3 t).IsWhole := hstage0_3 ((cfg0.slots t 3).cast nbuf0_3)

set_option maxHeartbeats 1000000 in

/-- The stores one run of the body makes, with the proof that the body makes them. -/
noncomputable def kernelRun0_A (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) :
    Σ' (L1 : List (View.Piece (Elt F) S9216x256 .fp8e4m3)), Σ' (L2 : List (View.Piece (Elt F) S1x256 .f32)), { L3 : List (View.Piece (Elt F) S256x9216 .fp8e4m3) //
      ∀ (E : Set ℕ) (K : PUnit → sProp (MT nD τ sig Unit (Elt F) ℕ (UR sig nD τ) ℕ)),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_xquant i arg1 harg1 arg2 harg2 arg3 harg3 arg4 harg4) K } := by
  refine ⟨?_, ?_, ?_, fun E K => ?run⟩
  case run =>
    simp only [cc0_xquant_eq_skeleton]; unfold cc0_xquant_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg1.eq_unread hf0
    sl_exec
    have hre : ∀ (f : BufTy.Contents (Elt F) arg2.view.ty) (v : IVec S1x256 32) (x : BitVec 32) (X : BufTy.Contents (Elt F) arg1.view.ty),
        arg2.view.writes (Elt F) f (pb_k0_t2 (F := F) Variants.none c none i arg1 harg1 arg2 harg2 arg3 harg3 arg4 harg4 v x X (Scf.trips k0_t2_loop.lb k0_t2_loop.ub k0_t2_loop.st))
          = arg2.view.writes (Elt F) arg2.view.junk (pb_k0_t2 (F := F) Variants.none c none i arg1 harg1 arg2 harg2 arg3 harg3 arg4 harg4 v x X (Scf.trips k0_t2_loop.lb k0_t2_loop.ub k0_t2_loop.st)) :=
      fun f v x X => writes_of_cover harg2 f _ (fun y => View.cover_of_tiledL (pb_k0_t2 (F := F) Variants.none c none i arg1 harg1 arg2 harg2 arg3 harg3 arg4 harg4 v x X (Scf.trips k0_t2_loop.lb k0_t2_loop.ub k0_t2_loop.st)) S512x256.size (by sl_kernel_rfl) y)
    rw [hre f1]
    sl_step
    iapply Hk
    isplitl [H0]
    · iexists _; isplitr; · ipureintro; exact harg1.read_unread _
      iexact H0
    isplitl [H1]; · iexists _; iexact H1
    isplitl [H2]; · iexists _; iexact H2
    iexists _; iexact H3

/-- The stores of the run cover the whole block of this output. -/
theorem cover0_A_1 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) (y : S9216x256.Idx) :
    ∃ pc ∈ (kernelRun0_A c i arg1 harg1 arg2 harg2 arg3 harg3 arg4 harg4 x0).1, y ∈ pc.1.set :=
  View.cover_of_tiledL (kernelRun0_A c i arg1 harg1 arg2 harg2 arg3 harg3 arg4 harg4 x0).1 S512x256.size (by sl_kernel_rfl) y

/-- What the body leaves in this output block. -/
def out0_A_1 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) : Vec F S9216x256 .fp8e4m3 :=
  VO0_1.read (Elt F) (VO0_1.writes (Elt F) VO0_1.junk (kernelRun0_A c i arg1 harg1 arg2 harg2 arg3 harg3 arg4 harg4 x0).1)

/-- The stores of the run cover the whole block of this output. -/
theorem cover0_A_2 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) (y : S1x256.Idx) :
    ∃ pc ∈ (kernelRun0_A c i arg1 harg1 arg2 harg2 arg3 harg3 arg4 harg4 x0).2.1, y ∈ pc.1.set :=
  View.cover_of_tiledL (kernelRun0_A c i arg1 harg1 arg2 harg2 arg3 harg3 arg4 harg4 x0).2.1 S1x256.size (by sl_kernel_rfl) y

/-- What the body leaves in this output block. -/
def out0_A_2 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) : Vec F S1x256 .f32 :=
  VO0_2.read (Elt F) (VO0_2.writes (Elt F) VO0_2.junk (kernelRun0_A c i arg1 harg1 arg2 harg2 arg3 harg3 arg4 harg4 x0).2.1)

/-- The stores of the run cover the whole block of this output. -/
theorem cover0_A_3 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) (y : S256x9216.Idx) :
    ∃ pc ∈ (kernelRun0_A c i arg1 harg1 arg2 harg2 arg3 harg3 arg4 harg4 x0).2.2.1, y ∈ pc.1.set :=
  View.cover_of_tiledL (kernelRun0_A c i arg1 harg1 arg2 harg2 arg3 harg3 arg4 harg4 x0).2.2.1 S256x512.size (by sl_kernel_rfl) y

/-- What the body leaves in this output block. -/
def out0_A_3 (c : Dev nD) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
    (x0 : Vec F S9216x256 .bf16) : Vec F S256x9216 .fp8e4m3 :=
  VO0_3.read (Elt F) (VO0_3.writes (Elt F) VO0_3.junk (kernelRun0_A c i arg1 harg1 arg2 harg2 arg3 harg3 arg4 harg4 x0).2.2.1)

/-- What the output blocks hold after a grid point. -/
def outsAt0 (c : Dev nD) (t : Fin cfg0.N) : Vec F S9216x256 .fp8e4m3 × Vec F S1x256 .f32 × Vec F S256x9216 .fp8e4m3 :=
  (out0_A_1 c (grid0.coords t) (ms0_0 t) (hs0_0 t) (ms0_1 t) (hs0_1 t) (ms0_2 t) (hs0_2 t) (ms0_3 t) (hs0_3 t) (iblk0 V c 0 t), out0_A_2 c (grid0.coords t) (ms0_0 t) (hs0_0 t) (ms0_1 t) (hs0_1 t) (ms0_2 t) (hs0_2 t) (ms0_3 t) (hs0_3 t) (iblk0 V c 0 t), out0_A_3 c (grid0.coords t) (ms0_0 t) (hs0_0 t) (ms0_1 t) (hs0_1 t) (ms0_2 t) (hs0_2 t) (ms0_3 t) (hs0_3 t) (iblk0 V c 0 t))

/-- The data of the pipeline: arrays at entry, and buffers after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2
  Φ _ := Pipeline.ΦA spec0 c
  q _ := fullShare
  owed _ := 0

/-- The arrays of the pipeline are the contents at entry. -/
theorem A_eq0 (c : Dev nD) (w : Fin cfg0.W) : (dat0 V c).A w = V c (Pipeline.arrRef spec0 w) := by
  dsimp only [dat0]

/-- What the body leaves in the staging buffer of this window. -/
theorem after0_0 (c : Dev nD) (t : Fin cfg0.N) : (dat0 V c).after 0 t = iblk0 V c 0 t := by dsimp only [dat0]
/-- What the body leaves in the staging buffer of this window. -/
theorem after0_1 (c : Dev nD) (t : Fin cfg0.N) : (dat0 V c).after 1 t = (outsAt0 V c t).1 := by dsimp only [dat0]
/-- What the body leaves in the staging buffer of this window. -/
theorem after0_2 (c : Dev nD) (t : Fin cfg0.N) : (dat0 V c).after 2 t = (outsAt0 V c t).2.1 := by dsimp only [dat0]
/-- What the body leaves in the staging buffer of this window. -/
theorem after0_3 (c : Dev nD) (t : Fin cfg0.N) : (dat0 V c).after 3 t = (outsAt0 V c t).2.2 := by dsimp only [dat0]

/-- The staging buffer of an input holds its block when the body starts. -/
theorem before0_0 (c : Dev nD) (t : Fin cfg0.N) (d) : (dat0 V c).before 0 t d = iblk0 V c 0 t :=
  before0_0_of V (dat0 V c) (A_eq0 V c 0) (after0_0 V c) t d

/-- What the body is called with. -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What the body returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body, run at any grid point, takes its precondition to its postcondition. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_1 out0_A_2 out0_A_3; (try dsimp only)
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t)).2.2.2 Set.univ _)
  isplitl [H0]; · iexact H0
  isplitl [H1]; · iexists _; iexact H1
  isplitl [H2]; · iexists _; iexact H2
  isplitl [H3]; · iexists _; iexact H3
  iintro ⟨H0, ⟨%e1, H1⟩, ⟨%e2, H2⟩, ⟨%e3, H3⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _)
  isplitl [H2]
  · unfold owns; iexists _; isplitr
    swap; · iexact H2
    ipureintro; exact View.read_writes_of_cover _ _ _ _ _ (cover0_A_2 c _ _ _ _ _ _ _ _ _ _)
  unfold owns; iexists _; isplitr
  swap; · iexact H3
  ipureintro; exact View.read_writes_of_cover _ _ _ _ _ (cover0_A_3 c _ _ _ _ _ _ _ _ _ _)

/-- The body table at a grid point. -/
theorem defs₀_row0 (t : Fin cfg0.N) :
    defs₀ (F := F) .tc cfg0.body (cfg0.bodyArgs t (cfg0.slots t)) = bodyAt0 t := by
  unfold defs₀; rw [Defs.onTc_tc]

/-- The body meets what the pipeline asks of it at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The block of a window at a grid point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of an input holds its block when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The staging buffer of an input holds its block when the body starts. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- A staging buffer of an output. -/
abbrev VO1_5 : View sig .tc .vmem S1536x256 .f32 := (Memref.whole cc1_stg5_0 : Memref sig .tc .vmem S1536x256 .f32).view

/-- A staging buffer of an output. -/
abbrev VO1_6 : View sig .tc .vmem S1x256 .f32 := (Memref.whole cc1_stg6_0 : Memref sig .tc .vmem S1x256 .f32).view

/-- A staging buffer of an output. -/
abbrev VO1_7 : View sig .tc .vmem S9216x256 .fp8e5m2 := (Memref.whole cc1_stg7_0 : Memref sig .tc .vmem S9216x256 .fp8e5m2).view

/-- A staging buffer of an output. -/
abbrev VO1_8 : View sig .tc .vmem S1x256 .f32 := (Memref.whole cc1_stg8_0 : Memref sig .tc .vmem S1x256 .f32).view

/-- A staging buffer of an output. -/
abbrev VO1_9 : View sig .tc .vmem S768x256 .i8 := (Memref.whole cc1_stg9_0 : Memref sig .tc .vmem S768x256 .i8).view

/-- The staging memref of a window at a point. -/
abbrev ms1_0 (t : Fin cfg1.N) : Memref sig .tc .vmem S1536x9216 .fp8e4m3 := win1_0.stage (cfg1.slots t 0)
/-- It is a whole memref. -/
abbrev hs1_0 (t : Fin cfg1.N) : (ms1_0 t).IsWhole := hstage1_0 ((cfg1.slots t 0).cast nbuf1_0)
/-- The staging memref of a window at a point. -/
abbrev ms1_1 (t : Fin cfg1.N) : Memref sig .tc .vmem S1536x128 .f32 := win1_1.stage (cfg1.slots t 1)
/-- It is a whole memref. -/
abbrev hs1_1 (t : Fin cfg1.N) : (ms1_1 t).IsWhole := hstage1_1 ((cfg1.slots t 1).cast nbuf1_1)
/-- The staging memref of a window at a point. -/
abbrev ms1_2 (t : Fin cfg1.N) : Memref sig .tc .vmem S9216x256 .bf16 := win1_2.stage (cfg1.slots t 2)
/-- It is a whole memref. -/
abbrev hs1_2 (t : Fin cfg1.N) : (ms1_2 t).IsWhole := hstage1_2 ((cfg1.slots t 2).cast nbuf1_2)
/-- The staging memref of a window at a point. -/
abbrev ms1_3 (t : Fin cfg1.N) : Memref sig .tc .vmem S1536x256 .f32 := win1_3.stage (cfg1.slots t 3)
/-- It is a whole memref. -/
abbrev hs1_3 (t : Fin cfg1.N) : (ms1_3 t).IsWhole := hstage1_3 ((cfg1.slots t 3).cast nbuf1_3)
/-- The staging memref of a window at a point. -/
abbrev ms1_4 (t : Fin cfg1.N) : Memref sig .tc .vmem S1x256 .f32 := win1_4.stage (cfg1.slots t 4)
/-- It is a whole memref. -/
abbrev hs1_4 (t : Fin cfg1.N) : (ms1_4 t).IsWhole := hstage1_4 ((cfg1.slots t 4).cast nbuf1_4)
/-- The staging memref of a window at a point. -/
abbrev ms1_5 (t : Fin cfg1.N) : Memref sig .tc .vmem S1536x256 .f32 := win1_5.stage (cfg1.slots t 5)
/-- It is a whole memref. -/
abbrev hs1_5 (t : Fin cfg1.N) : (ms1_5 t).IsWhole := hstage1_5 ((cfg1.slots t 5).cast nbuf1_5)
/-- The staging memref of a window at a point. -/
abbrev ms1_6 (t : Fin cfg1.N) : Memref sig .tc .vmem S1x256 .f32 := win1_6.stage (cfg1.slots t 6)
/-- It is a whole memref. -/
abbrev hs1_6 (t : Fin cfg1.N) : (ms1_6 t).IsWhole := hstage1_6 ((cfg1.slots t 6).cast nbuf1_6)
/-- The staging memref of a window at a point. -/
abbrev ms1_7 (t : Fin cfg1.N) : Memref sig .tc .vmem S9216x256 .fp8e5m2 := win1_7.stage (cfg1.slots t 7)
/-- It is a whole memref. -/
abbrev hs1_7 (t : Fin cfg1.N) : (ms1_7 t).IsWhole := hstage1_7 ((cfg1.slots t 7).cast nbuf1_7)
/-- The staging memref of a window at a point. -/
abbrev ms1_8 (t : Fin cfg1.N) : Memref sig .tc .vmem S1x256 .f32 := win1_8.stage (cfg1.slots t 8)
/-- It is a whole memref. -/
abbrev hs1_8 (t : Fin cfg1.N) : (ms1_8 t).IsWhole := hstage1_8 ((cfg1.slots t 8).cast nbuf1_8)
/-- The staging memref of a window at a point. -/
abbrev ms1_9 (t : Fin cfg1.N) : Memref sig .tc .vmem S768x256 .i8 := win1_9.stage (cfg1.slots t 9)
/-- It is a whole memref. -/
abbrev hs1_9 (t : Fin cfg1.N) : (ms1_9 t).IsWhole := hstage1_9 ((cfg1.slots t 9).cast nbuf1_9)

set_option backward.proofsInPublic true in
set_option maxHeartbeats 1000000 in

/-- The stores one run of the body makes, with the proof that the body makes them. -/
noncomputable def kernelRun1_A (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) :
    Σ' (L5 : List (View.Piece (Elt F) S1536x256 .f32)), Σ' (L6 : List (View.Piece (Elt F) S1x256 .f32)), Σ' (L7 : List (View.Piece (Elt F) S9216x256 .fp8e5m2)), Σ' (L8 : List (View.Piece (Elt F) S1x256 .f32)), { L9 : List (View.Piece (Elt F) S768x256 .i8) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_main i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1_main_eq_skeleton]; unfold cc1_main_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole) (v39 : IVec S1x256 32) (c23_i32_10 : BitVec 32) (X_arg3 : BufTy.Contents (Elt F) arg3.view.ty) (hrdF : BufTy.Contents (Elt F) arg8.view.ty) (hrdB : LoadRect S9216x256), arg8.view.readAt (Elt F) hrdB (arg8.view.writes (Elt F) hrdF (pb_k1_t2 (F := F) 𝒱 c bd i arg1 harg1 arg2 harg2 arg3 harg3 arg4 harg4 arg5 harg5 arg6 harg6 arg7 harg7 arg8 harg8 arg9 harg9 arg10 harg10 v39 c23_i32_10 X_arg3 (Scf.trips k1_t2_loop.lb k1_t2_loop.ub k1_t2_loop.st))) = arg8.view.readCov (pb_k1_t2 (F := F) 𝒱 c bd i arg1 harg1 arg2 harg2 arg3 harg3 arg4 harg4 arg5 harg5 arg6 harg6 arg7 harg7 arg8 harg8 arg9 harg9 arg10 harg10 v39 c23_i32_10 X_arg3 (Scf.trips k1_t2_loop.lb k1_t2_loop.ub k1_t2_loop.st)) hrdB := fun 𝒱 c bd i arg1 harg1 arg2 harg2 arg3 harg3 arg4 harg4 arg5 harg5 arg6 harg6 arg7 harg7 arg8 harg8 arg9 harg9 arg10 harg10 v39 c23_i32_10 X_arg3 hrdF hrdB => View.readAt_writes_of_cover _ hrdF _ hrdB (fun hrdJ => View.cover_of_tiledL (pb_k1_t2 (F := F) 𝒱 c bd i arg1 harg1 arg2 harg2 arg3 harg3 arg4 harg4 arg5 harg5 arg6 harg6 arg7 harg7 arg8 harg8 arg9 harg9 arg10 harg10 v39 c23_i32_10 X_arg3 (Scf.trips k1_t2_loop.lb k1_t2_loop.ub k1_t2_loop.st)) S512x256.size (by sl_kernel_rfl) (hrdB.idx hrdJ))
    sl_exec
    rw [st_G10 Variants.none c none i arg1 harg1 arg2 harg2 arg3 harg3 arg4 harg4 arg5 harg5 arg6 harg6 arg7 harg7 arg8 harg8 arg9 harg9 arg10 harg10 _ _ _ _ _ f9 arg10.view.junk]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

/-- The stores of the run cover the whole block of this output. -/
theorem cover1_A_5 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S1536x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledBy (kernelRun1_A c i arg1 harg1 arg2 harg2 arg3 harg3 arg4 harg4 arg5 harg5 arg6 harg6 arg7 harg7 arg8 harg8 arg9 harg9 arg10 harg10 x0 x1 x2 x3 x4).1 ![256, 256] (by sl_kernel_rfl) y

/-- What the body leaves in this output block. -/
def out1_A_5 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S1536x256 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 x0 x1 x2 x3 x4).1)

/-- The stores of the run cover the whole block of this output. -/
theorem cover1_A_6 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.1 S1x256.size (by sl_kernel_rfl) y

/-- What the body leaves in this output block. -/
def out1_A_6 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S1x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 x0 x1 x2 x3 x4).2.1)

/-- The stores of the run cover the whole block of this output. -/
theorem cover1_A_7 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S9216x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.2.1 S512x256.size (by sl_kernel_rfl) y

/-- What the body leaves in this output block. -/
def out1_A_7 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S9216x256 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 x0 x1 x2 x3 x4).2.2.1)

/-- The stores of the run cover the whole block of this output. -/
theorem cover1_A_8 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S1x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.2.2.1 S1x256.size (by sl_kernel_rfl) y

/-- What the body leaves in this output block. -/
def out1_A_8 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S1x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 x0 x1 x2 x3 x4).2.2.2.1)

/-- The stores of the run cover the whole block of this output. -/
theorem cover1_A_9 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) (y : S768x256.Idx) :
    ∃ pc ∈ (kernelRun1_A c i arg1 harg1 arg2 harg2 arg3 harg3 arg4 harg4 arg5 harg5 arg6 harg6 arg7 harg7 arg8 harg8 arg9 harg9 arg10 harg10 x0 x1 x2 x3 x4).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 x0 x1 x2 x3 x4).2.2.2.2.1 S128x256.size (by sl_kernel_rfl) y

/-- What the body leaves in this output block. -/
def out1_A_9 (c : Dev nD) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
    (x0 : Vec F S1536x9216 .fp8e4m3) (x1 : Vec F S1536x128 .f32) (x2 : Vec F S9216x256 .bf16) (x3 : Vec F S1536x256 .f32) (x4 : Vec F S1x256 .f32) : Vec F S768x256 .i8 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 x0 x1 x2 x3 x4).2.2.2.2.1)

/-- What the output blocks hold after a grid point. -/
def outsAt1 (c : Dev nD) (t : Fin cfg1.N) : Vec F S1536x256 .f32 × Vec F S1x256 .f32 × Vec F S9216x256 .fp8e5m2 × Vec F S1x256 .f32 × Vec F S768x256 .i8 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t))

/-- The data of the pipeline: arrays at entry, and buffers after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2.1
    | ⟨7, _⟩ => (outsAt1 V c t).2.2.1
    | ⟨8, _⟩ => (outsAt1 V c t).2.2.2.1
    | ⟨9, _⟩ => (outsAt1 V c t).2.2.2.2
  Φ _ := Pipeline.ΦA spec1 c
  q _ := fullShare
  owed _ := 0

/-- The arrays of the pipeline are the contents at entry. -/
theorem A_eq1 (c : Dev nD) (w : Fin cfg1.W) : (dat1 V c).A w = V c (Pipeline.arrRef spec1 w) := by
  dsimp only [dat1]

/-- What the body leaves in the staging buffer of this window. -/
theorem after1_0 (c : Dev nD) (t : Fin cfg1.N) : (dat1 V c).after 0 t = iblk1 V c 0 t := by dsimp only [dat1]
/-- What the body leaves in the staging buffer of this window. -/
theorem after1_1 (c : Dev nD) (t : Fin cfg1.N) : (dat1 V c).after 1 t = iblk1 V c 1 t := by dsimp only [dat1]
/-- What the body leaves in the staging buffer of this window. -/
theorem after1_2 (c : Dev nD) (t : Fin cfg1.N) : (dat1 V c).after 2 t = iblk1 V c 2 t := by dsimp only [dat1]
/-- What the body leaves in the staging buffer of this window. -/
theorem after1_3 (c : Dev nD) (t : Fin cfg1.N) : (dat1 V c).after 3 t = iblk1 V c 3 t := by dsimp only [dat1]
/-- What the body leaves in the staging buffer of this window. -/
theorem after1_4 (c : Dev nD) (t : Fin cfg1.N) : (dat1 V c).after 4 t = iblk1 V c 4 t := by dsimp only [dat1]
/-- What the body leaves in the staging buffer of this window. -/
theorem after1_5 (c : Dev nD) (t : Fin cfg1.N) : (dat1 V c).after 5 t = (outsAt1 V c t).1 := by dsimp only [dat1]
/-- What the body leaves in the staging buffer of this window. -/
theorem after1_6 (c : Dev nD) (t : Fin cfg1.N) : (dat1 V c).after 6 t = (outsAt1 V c t).2.1 := by dsimp only [dat1]
/-- What the body leaves in the staging buffer of this window. -/
theorem after1_7 (c : Dev nD) (t : Fin cfg1.N) : (dat1 V c).after 7 t = (outsAt1 V c t).2.2.1 := by dsimp only [dat1]
/-- What the body leaves in the staging buffer of this window. -/
theorem after1_8 (c : Dev nD) (t : Fin cfg1.N) : (dat1 V c).after 8 t = (outsAt1 V c t).2.2.2.1 := by dsimp only [dat1]
/-- What the body leaves in the staging buffer of this window. -/
theorem after1_9 (c : Dev nD) (t : Fin cfg1.N) : (dat1 V c).after 9 t = (outsAt1 V c t).2.2.2.2 := by dsimp only [dat1]

/-- The staging buffer of an input holds its block when the body starts. -/
theorem before1_0 (c : Dev nD) (t : Fin cfg1.N) (d) : (dat1 V c).before 0 t d = iblk1 V c 0 t :=
  before1_0_of V (dat1 V c) (A_eq1 V c 0) (after1_0 V c) t d
/-- The staging buffer of an input holds its block when the body starts. -/
theorem before1_1 (c : Dev nD) (t : Fin cfg1.N) (d) : (dat1 V c).before 1 t d = iblk1 V c 1 t :=
  before1_1_of V (dat1 V c) (A_eq1 V c 1) (after1_1 V c) t d
/-- The staging buffer of an input holds its block when the body starts. -/
theorem before1_2 (c : Dev nD) (t : Fin cfg1.N) (d) : (dat1 V c).before 2 t d = iblk1 V c 2 t :=
  before1_2_of V (dat1 V c) (A_eq1 V c 2) (after1_2 V c) t d
/-- The staging buffer of an input holds its block when the body starts. -/
theorem before1_3 (c : Dev nD) (t : Fin cfg1.N) (d) : (dat1 V c).before 3 t d = iblk1 V c 3 t :=
  before1_3_of V (dat1 V c) (A_eq1 V c 3) (after1_3 V c) t d
/-- The staging buffer of an input holds its block when the body starts. -/
theorem before1_4 (c : Dev nD) (t : Fin cfg1.N) (d) : (dat1 V c).before 4 t d = iblk1 V c 4 t :=
  before1_4_of V (dat1 V c) (A_eq1 V c 4) (after1_4 V c) t d

/-- What the body is called with. -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What the body returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 800000 in

/-- The body, run at any grid point, takes its precondition to its postcondition. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold outsAt1
  unfold out1_A_5 out1_A_6 out1_A_7 out1_A_8 out1_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c (grid1.coords t) _ _ _ _ _ _ _ _ _ _ _ _ _ _ _ _ _ _ _ _ (iblk1 V c 0 t) (iblk1 V c 1 t) (iblk1 V c 2 t) (iblk1 V c 3 t) (iblk1 V c 4 t)).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, ⟨%e5, H5⟩, ⟨%e6, H6⟩, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover1_A_7 c _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _)
  unfold owns; iexists _; isplitr
  swap; · iexact H9
  ipureintro; exact View.read_writes_of_cover _ _ _ _ _ (cover1_A_9 c _ _ _ _ _ _ _ _ _ _ _ _ _ _ _ _ _ _ _ _ _ _ _ _ _ _)

/-- The body table at a grid point. -/
theorem defs₀_row1 (t : Fin cfg1.N) :
    defs₀ (F := F) .tc cfg1.body (cfg1.bodyArgs t (cfg1.slots t)) = bodyAt1 t := by
  unfold defs₀; rw [Defs.onTc_tc]

/-- The body meets what the pipeline asks of it at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-- A definition the run is stated with. -/
abbrev argRefs : List (Ref sig .tc) := [main_arg0, main_arg1, main_arg2, main_arg3]

/-- A fact about the segments of the program. -/
theorem hostOps0_fresh : (hostOps0 : List (HloOp τ sig (Elt F))).Forall fun op => op.fresh = ∅ := by
  simp only [List.Forall]; repeat' constructor

/-- A definition the run is stated with. -/
abbrev hostOps0_W : List (Ref sig .tc) := [main_v0, main_v1]
/-- A fact about the segments of the program. -/
theorem hostOps0_writes : (hostOps0 : List (HloOp τ sig (Elt F))).Forall fun op => op.writes ⊆ (hostOps0_W.map (Proc.devRef (τ := τ) .tc)).toFinset :=
  StableHlo.forall_writes_sub_of_map rfl

/-- A fact about the segments of the program. -/
theorem hostOps0_args : ∀ a ∈ argRefs, a ∉ hostOps0_W := ListAll.forall_mem_of_all_decide (by decide +kernel)

/-- A fact about the segments of the program. -/
theorem hostOps1_fresh : (hostOps1 : List (HloOp τ sig (Elt F))).Forall fun op => op.fresh = ∅ := by
  simp only [List.Forall]; repeat' constructor

/-- A definition the run is stated with. -/
abbrev hostOps1_W : List (Ref sig .tc) := [main_v3, main_v4, main_v5]
/-- A fact about the segments of the program. -/
theorem hostOps1_writes : (hostOps1 : List (HloOp τ sig (Elt F))).Forall fun op => op.writes ⊆ (hostOps1_W.map (Proc.devRef (τ := τ) .tc)).toFinset :=
  StableHlo.forall_writes_sub_of_map rfl

/-- A fact about the segments of the program. -/
theorem hostOps1_args : ∀ a ∈ argRefs, a ∉ hostOps1_W := ListAll.forall_mem_of_all_decide (by decide +kernel)

/-- A fact about the segments of the program. -/
theorem hostOps2_fresh : (hostOps2 : List (HloOp τ sig (Elt F))).Forall fun op => op.fresh = ∅ := by
  simp only [List.Forall]; repeat' constructor

/-- A definition the run is stated with. -/
abbrev hostOps2_W : List (Ref sig .tc) := [main_v7, main_v8, main_v9, main_v10, main_v11]
/-- A fact about the segments of the program. -/
theorem hostOps2_writes : (hostOps2 : List (HloOp τ sig (Elt F))).Forall fun op => op.writes ⊆ (hostOps2_W.map (Proc.devRef (τ := τ) .tc)).toFinset :=
  StableHlo.forall_writes_sub_of_map rfl

/-- A fact about the segments of the program. -/
theorem hostOps2_args : ∀ a ∈ argRefs, a ∉ hostOps2_W := ListAll.forall_mem_of_all_decide (by decide +kernel)

/-- Buffer contents at a segment boundary. -/
abbrev W0 : Dev nD → Valuation τ sig (Elt F) := fun c b => (s₀ m ρ).mem ((c : Dev nD), b)
/-- Buffer contents at a segment boundary. -/
theorem W0_args (c : Dev nD) : ∀ a ∈ argRefs, W0 m ρ c (Proc.devRef .tc a) = m ((c : Thread nD τ).loc a) := fun _ _ => rfl

/-- Buffer contents at a segment boundary. -/
abbrev W1 : Dev nD → Valuation τ sig (Elt F) := fun c => StableHlo.after hostOps0 (W0 m ρ c)

/-- Buffer contents at a segment boundary. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Buffer contents at a segment boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- A definition the run is stated with. -/
abbrev V1 : (c : Dev nD) → (b : Ref sig .tc) → Buf (Elt F) ((c : Thread nD τ).loc b) := fun c b => W1 m ρ c b

/-- Buffer contents at a segment boundary. -/
def W2 (c : Dev nD) : Valuation τ sig (Elt F) :=
  Pipeline.withArrays spec0 c (W1 m ρ c) fun w => (dat0 (V1 m ρ) c).arrAt w cfg0.N
/-- Buffer contents at a segment boundary. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Buffer contents at a segment boundary. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- Buffer contents at a segment boundary. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

/-- A fact about the segments of the program. -/
theorem argsIn0 : ∀ a ∈ argRefs, ∀ w : Fin cfg0.W, Pipeline.arrRef spec0 w = a → (cfg0.win w).isOut = false :=
  ListAll.forall_mem_of_all_decide (by decide +kernel)
/-- Buffer contents at a segment boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)

/-- A definition the run is stated with. -/
abbrev V2 : (c : Dev nD) → (b : Ref sig .tc) → Buf (Elt F) ((c : Thread nD τ).loc b) := fun c b => W2 m ρ c b

/-- A fact about the segments of the program. -/
theorem hF0 (c : Dev nD) (w : Fin cfg0.W) : (dat0 (V1 m ρ) c).arrAt w cfg0.N = V2 m ρ c (Pipeline.arrRef spec0 w) :=
  (W2_arr m ρ c w).symm
/-- A fact about the segments of the program. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Buffer contents at a segment boundary. -/
abbrev W3 : Dev nD → Valuation τ sig (Elt F) := fun c => StableHlo.after hostOps1 (W2 m ρ c)

/-- Buffer contents at a segment boundary. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Buffer contents at a segment boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)

/-- A definition the run is stated with. -/
abbrev V3 : (c : Dev nD) → (b : Ref sig .tc) → Buf (Elt F) ((c : Thread nD τ).loc b) := fun c b => W3 m ρ c b

/-- Buffer contents at a segment boundary. -/
def W4 (c : Dev nD) : Valuation τ sig (Elt F) :=
  Pipeline.withArrays spec1 c (W3 m ρ c) fun w => (dat1 (V3 m ρ) c).arrAt w cfg1.N
/-- Buffer contents at a segment boundary. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- Buffer contents at a segment boundary. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- Buffer contents at a segment boundary. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

/-- A fact about the segments of the program. -/
theorem argsIn1 : ∀ a ∈ argRefs, ∀ w : Fin cfg1.W, Pipeline.arrRef spec1 w = a → (cfg1.win w).isOut = false :=
  ListAll.forall_mem_of_all_decide (by decide +kernel)
/-- Buffer contents at a segment boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)

/-- A definition the run is stated with. -/
abbrev V4 : (c : Dev nD) → (b : Ref sig .tc) → Buf (Elt F) ((c : Thread nD τ).loc b) := fun c b => W4 m ρ c b

/-- A fact about the segments of the program. -/
theorem hF1 (c : Dev nD) (w : Fin cfg1.W) : (dat1 (V3 m ρ) c).arrAt w cfg1.N = V4 m ρ c (Pipeline.arrRef spec1 w) :=
  (W4_arr m ρ c w).symm
/-- A fact about the segments of the program. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Buffer contents at a segment boundary. -/
abbrev W5 : Dev nD → Valuation τ sig (Elt F) := fun c => StableHlo.after hostOps2 (W4 m ρ c)

/-- Buffer contents at a segment boundary. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- Buffer contents at a segment boundary. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-- Buffer contents at a segment boundary. -/
theorem W5_main_arg0 (c : Dev nD) : W5 m ρ c (Proc.devRef .tc main_arg0) = m ((c : Thread nD τ).loc main_arg0) :=
  W5_args m ρ c main_arg0 (by decide)
/-- Buffer contents at a segment boundary. -/
theorem W5_main_arg1 (c : Dev nD) : W5 m ρ c (Proc.devRef .tc main_arg1) = m ((c : Thread nD τ).loc main_arg1) :=
  W5_args m ρ c main_arg1 (by decide)
/-- Buffer contents at a segment boundary. -/
theorem W5_main_arg2 (c : Dev nD) : W5 m ρ c (Proc.devRef .tc main_arg2) = m ((c : Thread nD τ).loc main_arg2) :=
  W5_args m ρ c main_arg2 (by decide)
/-- Buffer contents at a segment boundary. -/
theorem W5_main_arg3 (c : Dev nD) : W5 m ρ c (Proc.devRef .tc main_arg3) = m ((c : Thread nD τ).loc main_arg3) :=
  W5_args m ρ c main_arg3 (by decide)

/-- A definition the run is stated with. -/
abbrev adm : (p : Fin 2) → (pcfgs (F := F) p).Adm := fun p => (cfgs p).toPCfg_adm

/-- A definition the run is stated with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- A definition the run is stated with. -/
abbrev 𝒱₀ : Variants := Variants.none

/-- A definition the run is stated with. -/
abbrev L : GSem nD τ sig → Finset Unit := fun _ => ∅
/-- A definition the run is stated with. -/
abbrev lv : GSem nD τ sig → Unit → ℕ := fun _ _ => 0

/-- A definition the run is stated with. -/
abbrev R (c : Dev nD) : sProp (MT nD τ sig Unit (Elt F) ℕ (UR sig nD τ) ℕ) := iprop((∃ r, prngReg c r) ∗ ∃ W, owes (c : Thread nD τ) (0 : CellTallies nD τ sig Unit) W)

/-- It is a whole memref. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A fact about the segments of the program. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A definition the run is stated with. -/
abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

set_option backward.isDefEq.respectTransparency.types false in

/-- A kernel call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

/-- A kernel call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments of the program. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- A fact about the segments of the program. -/
theorem main_run (c : Dev nD) : main (F := F) c = Pipeline.Seg.run (segs m ρ) := (main_chain c).trans (by chain_rfl)

/-- A fact about the segments of the program. -/
theorem no_unscoped : ∀ sm : SemLoc sig, sm.isScoped .tc = true := by decide

set_option backward.isDefEq.respectTransparency.types false in
/-- Every weakly fair execution of the program terminates; each buffer then holds the contents the last boundary
    gives it, and every semaphore counter is zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The program ends with its argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (ends m ρ)

end Cert.KernelIdeal.Run

end
-- ==== Proof.Scale.lean ====
module

public import Idealize.ShloMosaic.Lib.Pointwise
@[expose] public section
set_option maxRecDepth 16384

/-! The power of two that scales a column, as the reference finds it and as the kernel finds it. -/

namespace Cert.Spec
open Idealize.ShloMosaic

/-- The power `2^(j-126)` the reference tries as its `j`-th candidate. -/
noncomputable def cand (w : BitVec 32) : EReal :=
  FloatOps.exp2 (F := Ideal) (φ := .f32) (FloatOps.sitofp (F := Ideal) .f32 (IntOp.subi w 126#32))

/-- The scale of a column: the least power of two above `y`, and `1` where `y` is subnormal. -/
noncomputable def sc (y : EReal) : EReal :=
  if y < Ideal.ofBits .f32 8388608#32 then 1
  else Finset.fold min (Ideal.ofBits .f32 2139095040#32)
    (fun j : Fin 254 => if y < cand (BitVec.ofNat 32 j) then cand (BitVec.ofNat 32 j) else Ideal.ofBits .f32 2139095040#32)
    Finset.univ

/-- The word with exponent field `k`. -/
def pw (k : BitVec 32) : BitVec 32 := IntOp.shli .vector k 23#32

/-- The exponent field the kernel finds: the largest `k` whose power is at most `y`. -/
noncomputable def field (y : EReal) : BitVec 32 :=
  Finset.fold IntOp.maxsi 2147483648#32
    (fun k : Fin 256 => if Ideal.ofBits .f32 (pw (BitVec.ofNat 32 k)) ≤ y then BitVec.ofNat 32 k else 0#32) Finset.univ

/-- The exponent the kernel finds for a column whose largest magnitude is `a`, with `y` its quotient. -/
noncomputable def expo (y a : EReal) : BitVec 32 :=
  Scalar.select
    (IntOp.ori (IntOp.ori (IntOp.cmpi .eq (field y) 0#32) (IntOp.cmpi .eq (field y) 255#32)) (BitVec.ofBool (decide (a = 0))))
    0#32 (IntOp.subi (field y) 126#32)

/-- The parts of a word with only an exponent field. -/
theorem pw_parts : ∀ k : Fin 256, ((pw (BitVec.ofNat 32 k)).extractLsb' 23 8).toNat = k
    ∧ ((pw (BitVec.ofNat 32 k)).extractLsb' 0 23).toNat = 0
    ∧ ((pw (BitVec.ofNat 32 k)).extractLsb' 31 1 == 1#1) = false := by decide +kernel

/-- A word with sign zero, exponent field `k` and fraction zero is the number `2^(k-127)`. -/
theorem word_val (b : BitVec 32) (k : ℕ) (h1 : 1 ≤ k) (h2 : k ≤ 254) (ha : (b.extractLsb' 23 8).toNat = k)
    (hb : (b.extractLsb' 0 23).toNat = 0) (hc : (b.extractLsb' (8 + 23) 1 == 1#1) = false) :
    Ideal.ieee 8 23 b = (((2 : ℝ) ^ ((k : ℤ) - 127) : ℝ) : EReal) := by
  unfold Ideal.ieee
  simp only [ha, hb, hc]
  rw [if_neg (by omega), if_neg (by omega)]
  congr 1
  simp only [Bool.false_eq_true, if_false, Nat.add_zero, one_mul]
  have h : ((2 ^ 23 : ℕ) : ℝ) = (2 : ℝ) ^ (23 : ℤ) := by norm_num
  rw [h, ← zpow_add₀ (by norm_num)]
  congr 1
  norm_num

/-- A word with exponent field `k` is the number `2^(k-127)`. -/
theorem pw_val (k : ℕ) (h1 : 1 ≤ k) (h2 : k ≤ 254) :
    Ideal.ofBits .f32 (pw (BitVec.ofNat 32 k)) = (((2 : ℝ) ^ ((k : ℤ) - 127) : ℝ) : EReal) := by
  have h := pw_parts ⟨k, by omega⟩
  exact word_val (pw (BitVec.ofNat 32 k)) k h1 h2 h.1 h.2.1 h.2.2

/-- The word of all zeros is the number `0`. -/
theorem pw_zero : Ideal.ofBits .f32 (pw (BitVec.ofNat 32 0)) = 0 := by
  have : pw (BitVec.ofNat 32 0) = 0#32 := by decide
  rw [this]; simp [Ideal.ofBits, Ideal.ieee]

/-- The largest exponent field is above every number. -/
theorem pw_top : Ideal.ofBits .f32 (pw (BitVec.ofNat 32 255)) = ⊤ := by
  have : pw (BitVec.ofNat 32 255) = 0x7F800000#32 := by decide
  rw [this]; simp [Ideal.ofBits, Ideal.ieee]

/-- The bound below which a number is subnormal. -/
theorem sub_val : Ideal.ofBits .f32 8388608#32 = (((2 : ℝ) ^ (-126 : ℤ) : ℝ) : EReal) := by
  have : (8388608#32 : BitVec 32) = pw (BitVec.ofNat 32 1) := by decide
  rw [this, pw_val 1 (by omega) (by omega)]; norm_num

/-- The word with exponent field 255 and no fraction is infinity. -/
theorem top_val : Ideal.ofBits .f32 2139095040#32 = ⊤ := by simp [Ideal.ofBits, Ideal.ieee]

/-- A candidate's exponent, as an integer. -/
theorem cand_int : ∀ j : Fin 254, (IntOp.subi (BitVec.ofNat 32 j) 126#32).toInt = (j : ℤ) - 126 := by decide +kernel

/-- A candidate is its power of two. -/
theorem cand_val (j : Fin 254) : cand (BitVec.ofNat 32 j) = (((2 : ℝ) ^ ((j : ℤ) - 126) : ℝ) : EReal) := by
  unfold cand
  show Ideal.exp2 (((IntOp.subi (BitVec.ofNat 32 j) 126#32).toInt : ℝ) : EReal) = _
  rw [cand_int, Ideal.exp2_coe]
  congr 1
  show (2 : ℝ) ^ (((j : ℤ) - 126 : ℤ) : ℝ) = _
  exact Real.rpow_intCast _ _

/-- The larger of two words, as integers. -/
theorem maxsi_toInt (x y : BitVec 32) : (IntOp.maxsi x y).toInt = max x.toInt y.toInt := by
  unfold IntOp.maxsi
  rw [BitVec.slt_eq_decide]
  by_cases h : y.toInt < x.toInt
  · rw [if_pos (by simpa using h), max_eq_left h.le]
  · rw [if_neg (by simpa using h), max_eq_right (not_lt.1 h)]

/-- A small number survives being made a 32-bit word. -/
theorem ofNat_toInt (k : ℕ) (h : k < 256) : (BitVec.ofNat 32 k).toInt = k := by
  rw [BitVec.toInt_ofNat']
  simp only [Int.bmod]
  omega

/-- The maximum of the numbers up to `n`. -/
theorem fold_maxsi (n : Fin 256) : Finset.fold IntOp.maxsi 2147483648#32
    (fun k : Fin 256 => if k ≤ n then BitVec.ofNat 32 k else 0#32) Finset.univ = BitVec.ofNat 32 n := by
  apply BitVec.eq_of_toInt_eq
  rw [← Finset.fold_hom (op' := max) maxsi_toInt, ofNat_toInt _ n.isLt]
  apply le_antisymm
  · rw [Finset.fold_max_le]
    refine ⟨?_, fun k _ => ?_⟩
    · have : (2147483648#32 : BitVec 32).toInt = -2147483648 := by decide
      omega
    · split
      · rename_i h
        rw [ofNat_toInt _ k.isLt]
        have : k.val ≤ n.val := h
        omega
      · simp
  · rw [Finset.le_fold_max]
    refine Or.inr ⟨n, Finset.mem_univ _, ?_⟩
    rw [if_pos le_rfl, ofNat_toInt _ n.isLt]

/-- The scale's exponent field is one more than the quotient's. -/
theorem expo_plus : ∀ n : Fin 254, IntOp.addi 127#32 (IntOp.subi (BitVec.ofNat 32 n) 126#32) = BitVec.ofNat 32 (n + 1) := by
  decide +kernel
/-- The inverse scale's exponent field is 253 less the quotient's. -/
theorem expo_minus : ∀ n : Fin 254, IntOp.subi 127#32 (IntOp.subi (BitVec.ofNat 32 n) 126#32) = BitVec.ofNat 32 (253 - n) := by
  decide +kernel
/-- Fields from 1 to 253 are neither of the two exceptions. -/
theorem expo_ne : ∀ n : Fin 254, n ≠ 0 → IntOp.cmpi .eq (BitVec.ofNat 32 n) 0#32 = 0#1 ∧ IntOp.cmpi .eq (BitVec.ofNat 32 n) 255#32 = 0#1 := by
  decide +kernel

/-- A subnormal quotient has exponent field zero. -/
theorem field_small (y : ℝ) (h : y < (2 : ℝ) ^ (-126 : ℤ)) : field (y : EReal) = 0#32 := by
  have hf : field (y : EReal) = Finset.fold IntOp.maxsi 2147483648#32
      (fun k : Fin 256 => if k ≤ (0 : Fin 256) then BitVec.ofNat 32 k else 0#32) Finset.univ := by
    unfold field
    congr 1
    funext k
    rcases Nat.eq_zero_or_pos k.val with h0 | h0
    · rw [h0]; simp
    · rw [if_neg (show ¬ k ≤ (0 : Fin 256) from fun hh => by have : k.val ≤ 0 := hh; omega), if_neg]
      rcases Nat.lt_or_ge k.val 255 with h5 | h5
      · rw [pw_val k h0 (by omega), EReal.coe_le_coe_iff, not_le]
        refine lt_of_lt_of_le h (zpow_le_zpow_right₀ (by norm_num) (by omega))
      · rw [show k.val = 255 by omega, pw_top]
        simp
  rw [hf, fold_maxsi 0]; rfl

/-- A normal quotient has the exponent field of the power just below it. -/
theorem field_normal (y : ℝ) (n : ℕ) (h1 : 1 ≤ n) (h2 : n ≤ 253) (hl : (2 : ℝ) ^ ((n : ℤ) - 127) ≤ y)
    (hu : y < (2 : ℝ) ^ ((n : ℤ) - 126)) : field (y : EReal) = BitVec.ofNat 32 n := by
  have hf : field (y : EReal) = Finset.fold IntOp.maxsi 2147483648#32
      (fun k : Fin 256 => if k ≤ (⟨n, by omega⟩ : Fin 256) then BitVec.ofNat 32 k else 0#32) Finset.univ := by
    unfold field
    congr 1
    funext k
    rcases Nat.eq_zero_or_pos k.val with h0 | h0
    · rw [h0]; simp
    · refine if_congr ?_ rfl rfl
      rcases Nat.lt_or_ge k.val 255 with h5 | h5
      · rw [pw_val k h0 (by omega), EReal.coe_le_coe_iff]
        constructor
        · intro h
          have := lt_of_le_of_lt h hu
          have := (zpow_lt_zpow_iff_right₀ (by norm_num : (1 : ℝ) < 2)).1 this
          show k.val ≤ n
          omega
        · intro h
          have : k.val ≤ n := h
          exact le_trans (zpow_le_zpow_right₀ (by norm_num) (by omega)) hl
      · rw [show k.val = 255 by omega, pw_top]
        constructor
        · intro h; simp at h
        · intro h
          have : k.val ≤ n := h
          omega
  rw [hf, fold_maxsi]

/-- The reference's scale of a normal quotient is the next power of two. -/
theorem sc_normal (y : ℝ) (n : ℕ) (h1 : 1 ≤ n) (h2 : n ≤ 253) (hl : (2 : ℝ) ^ ((n : ℤ) - 127) ≤ y)
    (hu : y < (2 : ℝ) ^ ((n : ℤ) - 126)) : sc (y : EReal) = (((2 : ℝ) ^ ((n : ℤ) - 126) : ℝ) : EReal) := by
  unfold sc
  rw [if_neg]
  · simp only [cand_val, top_val, EReal.coe_lt_coe_iff]
    apply le_antisymm
    · rw [Finset.fold_min_le]
      refine Or.inr ⟨⟨n, by omega⟩, Finset.mem_univ _, ?_⟩
      simp only
      rw [if_pos hu]
    · rw [Finset.le_fold_min]
      refine ⟨le_top, fun j _ => ?_⟩
      split
      · rename_i h
        rw [EReal.coe_le_coe_iff]
        refine zpow_le_zpow_right₀ (by norm_num) ?_
        have := (zpow_lt_zpow_iff_right₀ (by norm_num : (1 : ℝ) < 2)).1 (lt_of_le_of_lt hl h)
        omega
      · exact le_top
  · rw [sub_val, EReal.coe_lt_coe_iff, not_lt]
    exact le_trans (zpow_le_zpow_right₀ (by norm_num) (by omega)) hl

/-- The word with exponent field 127 is the number 1. -/
theorem word_one : Ideal.ofBits .f32 (pw (BitVec.ofNat 32 127)) = 1 := by
  rw [pw_val 127 (by omega) (by omega)]; norm_num

/-- The kernel's scale is the reference's, and the kernel's factor is its reciprocal. -/
theorem kernel_scale (a : ℝ) (k : ℝ) (ha : 0 ≤ a) (hb : a * k < (2 : ℝ) ^ (126 : ℤ)) :
    Ideal.ofBits .f32 (pw (IntOp.addi 127#32 (expo (a * k : ℝ) a))) = sc (a * k : ℝ)
    ∧ Ideal.ofBits .f32 (pw (IntOp.subi 127#32 (expo (a * k : ℝ) a))) = Ideal.div 1 (sc (a * k : ℝ)) := by
  rcases lt_or_ge (a * k) ((2 : ℝ) ^ (-126 : ℤ)) with h | h
  · have hs : sc (a * k : ℝ) = 1 := by unfold sc; rw [if_pos]; rw [sub_val]; exact EReal.coe_lt_coe_iff.2 h
    have he : expo (a * k : ℝ) a = 0#32 := by
      unfold expo
      rw [field_small _ h]
      have h0 : IntOp.cmpi .eq 0#32 0#32 = 1#1 := by decide
      have h5 : IntOp.cmpi .eq 0#32 255#32 = 0#1 := by decide
      rw [h0, h5]
      cases decide ((a : EReal) = 0) <;> rfl
    have h1 : Ideal.div 1 1 = 1 := by rw [show (1 : EReal) = ((1 : ℝ) : EReal) from rfl, Ideal.div_coe one_ne_zero]; norm_num
    rw [he, hs, h1]
    exact ⟨word_one, word_one⟩
  · have hy : 0 < a * k := lt_of_lt_of_le (by positivity) h
    obtain ⟨m, hm1, hm2⟩ := exists_mem_Ico_zpow hy (by norm_num : (1 : ℝ) < 2)
    have hma : m < 126 := (zpow_lt_zpow_iff_right₀ (by norm_num : (1 : ℝ) < 2)).1 (lt_of_le_of_lt hm1 hb)
    have hmb : -126 < m + 1 := (zpow_lt_zpow_iff_right₀ (by norm_num : (1 : ℝ) < 2)).1 (lt_of_le_of_lt h hm2)
    obtain ⟨n, hn⟩ : ∃ n : ℕ, (n : ℤ) = m + 127 := ⟨(m + 127).toNat, by omega⟩
    have hl : (2 : ℝ) ^ ((n : ℤ) - 127) ≤ a * k := by rw [hn]; simpa using hm1
    have hu : a * k < (2 : ℝ) ^ ((n : ℤ) - 126) := by rw [hn, show m + 127 - 126 = m + 1 by ring]; exact hm2
    have hn1 : 1 ≤ n := by omega
    have hn2 : n ≤ 252 := by omega
    have hf := field_normal _ n hn1 (by omega) hl hu
    have hz : a ≠ 0 := by rintro rfl; simp at hy
    obtain ⟨e1, e2⟩ := expo_ne ⟨n, by omega⟩ (by intro h; have := congrArg Fin.val h; simp at this; omega)
    simp only at e1 e2
    have he : expo (a * k : ℝ) a = IntOp.subi (BitVec.ofNat 32 n) 126#32 := by
      unfold expo
      rw [hf, e1, e2]
      have : decide ((a : EReal) = 0) = false := by simpa using hz
      rw [this]
      simp [IntOp.ori, Scalar.select]
    have p1 := expo_plus ⟨n, by omega⟩
    have p2 := expo_minus ⟨n, by omega⟩
    simp only at p1 p2
    rw [he, p1, p2, sc_normal _ n hn1 (by omega) hl hu, pw_val (n + 1) (by omega) (by omega), pw_val (253 - n) (by omega) (by omega)]
    refine ⟨?_, ?_⟩
    · congr 2; push_cast; ring
    · have h0 : (2 : ℝ) ^ ((n : ℤ) - 126) ≠ 0 := by positivity
      rw [Ideal.div_coe h0, one_mul, one_div, ← zpow_neg]
      congr 2; omega

/-- The value of the largest finite bf16. -/
theorem big_val : Ideal.ofBits .bf16 0x7F7F#16 = ((255 * (2 : ℝ) ^ (120 : ℤ) : ℝ) : EReal) := by
  simp [Ideal.ofBits, Ideal.ieee, -EReal.coe_mul]

/-- The value of the constant that stands for 1/448. -/
theorem kx_val : Ideal.ofBits .f32 991054117#32 = ((9586981 * (2 : ℝ) ^ (-32 : ℤ) : ℝ) : EReal) := by
  simp [Ideal.ofBits, Ideal.ieee, -EReal.coe_mul]

/-- The value of the constant that stands for 1/57344. -/
theorem ky_val : Ideal.ofBits .f32 932333861#32 = ((9586981 * (2 : ℝ) ^ (-39 : ℤ) : ℝ) : EReal) := by
  simp [Ideal.ofBits, Ideal.ieee, -EReal.coe_mul]

/-- The kernel's scale, for a finite largest magnitude and a factor below one. -/
theorem kernel_scale_of (a : EReal) (w : BitVec 32) (k : ℝ) (hw : Ideal.ofBits .f32 w = (k : EReal)) (hk0 : 0 ≤ k) (hk : k ≤ 1 / 4)
    (h0 : 0 ≤ a) (hb : a ≤ Ideal.ofBits .bf16 0x7F7F#16) :
    Ideal.ofBits .f32 (pw (IntOp.addi 127#32 (expo (a * Ideal.ofBits .f32 w) a))) = sc (a * Ideal.ofBits .f32 w)
    ∧ Ideal.ofBits .f32 (pw (IntOp.subi 127#32 (expo (a * Ideal.ofBits .f32 w) a))) = Ideal.div 1 (sc (a * Ideal.ofBits .f32 w)) := by
  rw [big_val] at hb
  rw [hw]
  induction a using EReal.rec with
  | bot => exact absurd h0 (by simp)
  | top => exact absurd hb (not_le_of_gt (EReal.coe_lt_top _))
  | coe r =>
    rw [← EReal.coe_mul]
    have h1 : 0 ≤ r := by exact_mod_cast h0
    have h2 : r ≤ 255 * (2 : ℝ) ^ (120 : ℤ) := EReal.coe_le_coe_iff.1 hb
    refine kernel_scale r k h1 ?_
    have h3 : r * k ≤ (255 * (2 : ℝ) ^ (120 : ℤ)) * (1 / 4) := mul_le_mul h2 hk hk0 (by positivity)
    refine lt_of_le_of_lt h3 ?_
    norm_num

/-- For the first format the kernel's scale is the reference's and its inverse word is the inverse. -/
theorem scale_x (a : EReal) (h0 : 0 ≤ a) (hb : a ≤ Ideal.ofBits .bf16 0x7F7F#16) :
    Ideal.ofBits .f32 (pw (IntOp.addi 127#32 (expo (a * Ideal.ofBits .f32 991054117#32) a))) = sc (a * Ideal.ofBits .f32 991054117#32)
    ∧ Ideal.ofBits .f32 (pw (IntOp.subi 127#32 (expo (a * Ideal.ofBits .f32 991054117#32) a))) = Ideal.div 1 (sc (a * Ideal.ofBits .f32 991054117#32)) :=
  kernel_scale_of a _ _ kx_val (by positivity) (by norm_num) h0 hb

/-- For the second format the kernel's scale is the reference's and its inverse word is the inverse. -/
theorem scale_y (a : EReal) (h0 : 0 ≤ a) (hb : a ≤ Ideal.ofBits .bf16 0x7F7F#16) :
    Ideal.ofBits .f32 (pw (IntOp.addi 127#32 (expo (a * Ideal.ofBits .f32 932333861#32) a))) = sc (a * Ideal.ofBits .f32 932333861#32)
    ∧ Ideal.ofBits .f32 (pw (IntOp.subi 127#32 (expo (a * Ideal.ofBits .f32 932333861#32) a))) = Ideal.div 1 (sc (a * Ideal.ofBits .f32 932333861#32)) :=
  kernel_scale_of a _ _ ky_val (by positivity) (by norm_num) h0 hb

/-! The limits of the two low-precision formats are the same numbers in both precisions. -/

/-- The upper limit of the first format is one number in both widths. -/
theorem lim1 : Ideal.ofBits .bf16 17376#16 = Ideal.ofBits .f32 1138753536#32 := by
  simp [Ideal.ofBits, Ideal.ieee, -EReal.coe_mul]; norm_num
/-- The lower limit of the first format is one number in both widths. -/
theorem lim2 : Ideal.ofBits .bf16 50144#16 = Ideal.ofBits .f32 3286237184#32 := by
  simp [Ideal.ofBits, Ideal.ieee, -EReal.coe_mul]; norm_num
/-- The upper limit of the second format is one number in both widths. -/
theorem lim3 : Ideal.ofBits .bf16 0x4760#16 = Ideal.ofBits .f32 1197473792#32 := by
  simp [Ideal.ofBits, Ideal.ieee, -EReal.coe_mul]; norm_num
/-- The lower limit of the second format is one number in both widths. -/
theorem lim4 : Ideal.ofBits .bf16 0xC760#16 = Ideal.ofBits .f32 3344957440#32 := by
  simp [Ideal.ofBits, Ideal.ieee, -EReal.coe_mul]; norm_num
/-- The word of the 32-bit minus infinity. -/
theorem neg_inf : Ideal.ofBits .f32 4286578688#32 = ⊥ := by simp [Ideal.ofBits, Ideal.ieee]
/-- The word of the 16-bit minus infinity. -/
theorem neg_inf_bf : Ideal.ofBits .bf16 65408#16 = ⊥ := by simp [Ideal.ofBits, Ideal.ieee]

/-- A magnitude is not negative. -/
theorem abs_nonneg (v : EReal) : 0 ≤ max v (-v) := by
  rcases le_total 0 v with h | h
  · exact le_max_of_le_left h
  · exact le_max_of_le_right (by simpa using h)

/-- The largest of sixteen partial maxima, each of the rows of one remainder, is the largest of all rows. -/
theorem colmax_of (g : Fin 9216 → EReal) (hg : ∀ r, 0 ≤ g r) (M : Fin 16 → EReal)
    (hM : ∀ i u, M i ≤ u ↔ 0 ≤ u ∧ ∀ r : Fin 9216, r.val % 16 = i.val → g r ≤ u) :
    Finset.fold max (Ideal.ofBits .f32 4286578688#32) M Finset.univ = Finset.fold max (Ideal.ofBits .f32 4286578688#32) g Finset.univ := by
  refine eq_of_forall_ge_iff fun u => ?_
  rw [Finset.fold_max_le, Finset.fold_max_le]
  refine and_congr_right fun _ => ⟨fun h r _ => ?_, fun h i _ => ?_⟩
  · exact ((hM ⟨r.val % 16, Nat.mod_lt _ (by norm_num)⟩ u).1 (h _ (Finset.mem_univ _))).2 r rfl
  · rw [hM]
    exact ⟨le_trans (hg 0) (h 0 (Finset.mem_univ _)), fun r _ => h r (Finset.mem_univ _)⟩

end Cert.Spec
end
-- ==== Proof.Spec.lean ====
module

public import proofs.«01_k».proof.Proof.Scale
@[expose] public section
set_option maxRecDepth 16384

/-! The seven results as functions of the operands' entries: `X` and `D` the two activations, `W` the weights and `S`
their column scales. -/

namespace Cert.Spec
open Idealize.ShloMosaic

/-- The largest magnitude of a column. -/
noncomputable def amax {n : ℕ} (f : Fin n → EReal) : EReal :=
  Finset.fold max (Ideal.ofBits .f32 4286578688#32) (fun k : Fin n => max (f k) (-(f k))) Finset.univ

/-- The scale of a column of the first activation. -/
noncomputable def SX {m : ℕ} (X : Fin 9216 → Fin m → EReal) (c : Fin m) : EReal :=
  sc (amax (fun r => X r c) * Ideal.ofBits .f32 991054117#32)

/-- The scale of a column of the second activation. -/
noncomputable def SY {m : ℕ} (D : Fin 9216 → Fin m → EReal) (c : Fin m) : EReal :=
  sc (amax (fun r => D r c) * Ideal.ofBits .f32 932333861#32)

/-- The first activation in its low-precision form. -/
noncomputable def QX {m : ℕ} (X : Fin 9216 → Fin m → EReal) (r : Fin 9216) (c : Fin m) : EReal :=
  min (Ideal.ofBits .f32 1138753536#32) (max (Ideal.ofBits .f32 3286237184#32) (X r c * Ideal.div 1 (SX X c)))

/-- The second activation in its low-precision form. -/
noncomputable def QY {m : ℕ} (D : Fin 9216 → Fin m → EReal) (r : Fin 9216) (c : Fin m) : EReal :=
  min (Ideal.ofBits .f32 1197473792#32) (max (Ideal.ofBits .f32 3344957440#32) (D r c * Ideal.div 1 (SY D c)))

/-- The gradient of the dequantised weights. -/
noncomputable def DQ {m n : ℕ} (X : Fin 9216 → Fin m → EReal) (D : Fin 9216 → Fin n → EReal) (i : Fin m) (c : Fin n) : EReal :=
  (∑ t, QX X t i * QY D t c) * SX X i * SY D c

/-- A weight rounded and clamped to four bits, as a number. -/
noncomputable def qf (v : EReal) : EReal :=
  min (((7#32).toInt : ℝ) : EReal) (max (((4294967288#32).toInt : ℝ) : EReal) (Ideal.liftRound Ideal.roundHalfEven v))

/-- The gradient passed where the scaled weight lies in the range of four bits. -/
noncomputable def pass (v g : EReal) : EReal :=
  Scalar.select (IntOp.andi (BitVec.ofBool (decide (Ideal.ofBits .f32 3238002688#32 ≤ v)))
    (BitVec.ofBool (decide (v ≤ Ideal.ofBits .f32 1088421888#32)))) g 0

/-- The derivative of a quantised weight by its scale. -/
noncomputable def slope (v : EReal) : EReal :=
  if v < Ideal.ofBits .f32 3238002688#32 then Ideal.ofBits .f32 3238002688#32
  else if Ideal.ofBits .f32 1088421888#32 < v then Ideal.ofBits .f32 1088421888#32
  else FloatOps.sitofp (F := Ideal) .f32 (FloatOps.fptosi (F := Ideal) (φ := .f32) 8 (qf v)) - v

/-- The gradient of a column's scale. -/
noncomputable def DS {m n : ℕ} (X : Fin 9216 → Fin m → EReal) (D : Fin 9216 → Fin n → EReal) (W : Fin m → Fin n → EReal)
    (S : Fin n → EReal) (c : Fin n) : EReal :=
  Ideal.ofBits .f32 1008599475#32 * ∑ i, slope (Ideal.div (W i c) (S c)) * DQ X D i c

/-- Two weights of four bits in one byte. -/
noncomputable def pack (v w : EReal) : BitVec 8 :=
  BitVec.setWidth 8
    (IntOp.ori (IntOp.andi (BitVec.signExtend 32 (FloatOps.fptosi (F := Ideal) (φ := .f32) 8 (qf v))) 15#32)
      (IntOp.shli ArithUnit.vector
        (IntOp.andi (BitVec.signExtend 32 (FloatOps.fptosi (F := Ideal) (φ := .f32) 8 (qf w))) 15#32) 4#32))

end Cert.Spec
end
-- ==== Proof.Region0.lean ====
module

public import proofs.«01_k».proof.Proof.IdealRun
public import proofs.«01_k».proof.Proof.Spec
public import Idealize.ShloMosaic.Lib.WritesUnit
@[expose] public section
set_option maxRecDepth 16384

/-! What the first call leaves in its output blocks, entry by entry. -/

namespace Cert.Blocks
open Idealize.ShloMosaic

/-- A load of whole rows reads the buffer at the row the load starts from, plus the row within the load. -/
theorem readAt_rows {sig : RefSig} {κ : Kind} {sp : Space} {d : Fin 2 → ℕ} {e : EltTy} {Val : EltTy → Type}
    (v : View sig κ sp (⟨2, d⟩ : Shape) e) (f : v.ty.Contents Val) {off size : Fin 2 → ℕ} {o : ℕ}
    (inb : ∀ a : Fin 2, off a + size a ≤ d a) (hoff : off = ![o, 0])
    (x : (Rect.unit (s := ⟨2, d⟩) off size inb).shape.Idx) (y : (⟨2, d⟩ : Shape).Idx)
    (h0 : (y (0 : Fin 2)).val = o + (x (0 : Fin 2)).val) (h1 : (y (1 : Fin 2)).val = (x (1 : Fin 2)).val) :
    v.readAt Val (Rect.unit (s := ⟨2, d⟩) off size inb).toLoadRect f x = v.read Val f y := by
  subst hoff
  rw [View.readAt_eq_ld]
  show v.read Val f _ = _
  congr 1
  funext a
  apply Fin.ext
  match a with
  | 0 => show o + 1 * (x (0 : Fin 2)).val = _; rw [h0, Nat.one_mul]
  | 1 => show 0 + 1 * (x (1 : Fin 2)).val = _; rw [h1, Nat.one_mul, Nat.zero_add]

end Cert.Blocks

namespace Cert.Region0
open Idealize.ShloMosaic Cert.KernelIdeal Cert.KernelIdeal.Gen Cert.KernelIdeal.Run Cert.Spec Cert.Blocks
open Idealize.SL Idealize.SL.Sem

/-- Trip `k` of the first loop reads from row `512 * k`. -/
theorem off1 : ∀ k : Fin k0_t1_loop.trips, k0_off1 k = ![512 * k.val, 0] := by decide +kernel
/-- Trip `k` of the second loop works from row `512 * k`. -/
theorem off2 : ∀ k : Fin k0_t2_loop.trips, k0_off2 k = ![512 * k.val, 0] := by decide +kernel
/-- Trip `k` of the third loop reads from row `512 * k`. -/
theorem off3 : ∀ k : Fin k0_t3_loop.trips, k0_off3 k = ![512 * k.val, 0] := by decide +kernel
/-- Trip `k` of the third loop writes from column `512 * k`. -/
theorem off4 : ∀ k : Fin k0_t3_loop.trips, k0_off4 k = ![0, 512 * k.val] := by decide +kernel
/-- The first loop makes 18 trips. -/
theorem trips1 : k0_t1_loop.trips = 18 := by decide
/-- The second loop makes 18 trips. -/
theorem trips2 : k0_t2_loop.trips = 18 := by decide
/-- The third loop makes 18 trips. -/
theorem trips3 : k0_t3_loop.trips = 18 := by decide

/-- A code is the entry times the inverse scale, clamped. -/
theorem pay1 (v : IVec S1x256 32) (y : Vec Ideal S512x256 .bf16) (r : Fin 512) (c : Fin 256) :
    k0_pay1 v 23#32 y (ix2 r c) = min (Ideal.ofBits .bf16 17376#16)
      (max (Ideal.ofBits .bf16 50144#16) (y (ix2 r c) * Ideal.ofBits .f32 (pw (v (ix2 0 c))))) := by
  pointwise [k0_pay1]
  rfl

/-- The transposed block, entry by entry. -/
theorem pay2 (x : Vec Ideal S512x256 .fp8e4m3) (r : Fin 512) (c : Fin 256) : k0_pay2 x (ix2 c r) = x (ix2 r c) := by
  pointwise [k0_pay2]

/-- The maxima start at zero. -/
theorem pay3 (r : Fin 16) (c : Fin 256) : k0_pay3 (F := Ideal) (ix2 r c) = 0 := by
  pointwise [k0_pay3]

/-- One trip takes the maximum of what is kept and of the magnitudes of the rows of one residue modulo 16. -/
theorem pay4 (a : FVec Ideal S16x256 .bf16) (y : Vec Ideal S512x256 .bf16) (r : Fin 16) (c : Fin 256) :
    k0_pay4 a y (ix2 r c) = max (a (ix2 r c))
      (Finset.fold max (Ideal.ofBits .bf16 65408#16) (fun q : Fin 32 => FloatOps.absf (F := Ideal) (φ := .bf16) (y (ix2 ⟨↑q * 16 + ↑r, by omega⟩ c))) Finset.univ) := by
  pointwise [k0_pay4]

/-- The exponent of a column from the 16 maxima that are kept. -/
theorem pay5 (a : FVec Ideal S16x256 .bf16) (c : Fin 256) :
    k0_pay5 a (ix2 0 c) = expo (Finset.fold max (Ideal.ofBits .f32 4286578688#32) (fun q : Fin 16 => a (ix2 q c)) Finset.univ * Ideal.ofBits .f32 991054117#32)
      (Finset.fold max (Ideal.ofBits .f32 4286578688#32) (fun q : Fin 16 => a (ix2 q c)) Finset.univ) := by
  pointwise [k0_pay5]
  rfl

/-- The scale is the word built from that exponent. -/
theorem pay6 (a : FVec Ideal S16x256 .bf16) (c : Fin 256) :
    k0_pay6 a (ix2 0 c) = Ideal.ofBits .f32 (pw (IntOp.addi 127#32 (k0_pay5 a (ix2 0 c)))) := by
  pointwise [k0_pay6]
  rfl

/-- The exponent of the inverse scale. -/
theorem pay7 (a : FVec Ideal S16x256 .bf16) (c : Fin 256) :
    k0_pay7 a (ix2 0 c) = IntOp.subi 127#32 (k0_pay5 a (ix2 0 c)) := by
  pointwise [k0_pay7]

variable (𝒱 : Variants) (c : Dev nD) (bd : Option 𝒱.V) (i : grid0.Coords) (arg1 : Memref sig .tc .vmem S9216x256 .bf16) (harg1 : arg1.IsWhole) (arg2 : Memref sig .tc .vmem S9216x256 .fp8e4m3) (harg2 : arg2.IsWhole) (arg3 : Memref sig .tc .vmem S1x256 .f32) (harg3 : arg3.IsWhole) (arg4 : Memref sig .tc .vmem S256x9216 .fp8e4m3) (harg4 : arg4.IsWhole)
variable (x0 : Vec Ideal S9216x256 .bf16)

/-- The maxima after `n` trips, as a bound: zero, and the magnitudes of the rows seen. -/
theorem max_le (n : ℕ) (hn : n ≤ 18) (q : Fin 16) (cc : Fin 256) (u : EReal) :
    st_k0_t1 (F := Ideal) 𝒱 c bd i arg1 harg1 arg2 harg2 arg3 harg3 arg4 harg4 (harg1.unread x0) k0_pay3 n (ix2 q cc) ≤ u
      ↔ 0 ≤ u ∧ ∀ r : Fin 9216, r.val < 512 * n → r.val % 16 = q.val → max (x0 (ix2 r cc)) (-(x0 (ix2 r cc))) ≤ u := by
  induction n with
  | zero =>
    rw [st_k0_t1.eq_1, pay3]
    exact ⟨fun h => ⟨h, fun r hr => absurd hr (by omega)⟩, fun h => h.1⟩
  | succ n ih =>
    have hk : n < k0_t1_loop.trips := by rw [trips1]; omega
    have e := st_k0_t1_succ (F := Ideal) 𝒱 c bd i arg1 harg1 arg2 harg2 arg3 harg3 arg4 harg4 (harg1.unread x0) k0_pay3 ⟨n, hk⟩
    simp only at e
    rw [e]
    have e2 : ∀ acc, tripR_k0_t1 (F := Ideal) 𝒱 c bd i arg1 harg1 arg2 harg2 arg3 harg3 arg4 harg4 (harg1.unread x0) ⟨n, hk⟩ acc
        = k0_pay4 acc (arg1.view.readAt (Elt Ideal) (Rect.unit (s := S9216x256) (k0_off1 ⟨n, hk⟩) S512x256.size (k0_off1_inb ⟨n, hk⟩)).toLoadRect (harg1.unread x0)) := by
      intro acc
      unfold tripR_k0_t1 trip_k0_t1
      rfl
    rw [e2, pay4, max_le_iff, ih (by omega), Finset.fold_max_le, neg_inf_bf]
    have e3 : ∀ p : Fin 32, arg1.view.readAt (Elt Ideal) (Rect.unit (s := S9216x256) (k0_off1 ⟨n, hk⟩) S512x256.size (k0_off1_inb ⟨n, hk⟩)).toLoadRect (harg1.unread x0) (ix2 ⟨↑p * 16 + ↑q, by omega⟩ cc)
        = x0 (ix2 ⟨512 * n + (↑p * 16 + ↑q), by omega⟩ cc) := by
      intro p
      rw [readAt_rows (size := S512x256.size) (o := 512 * n) _ _ _ (off1 ⟨n, hk⟩) (ix2 (⟨↑p * 16 + ↑q, by omega⟩ : Fin 512) cc : S512x256.Idx)
        (ix2 (⟨512 * n + (↑p * 16 + ↑q), by omega⟩ : Fin 9216) cc : S9216x256.Idx) (by show 512 * n + (p.val * 16 + q.val) = 512 * n + (p.val * 16 + q.val); rfl) (by show cc.val = cc.val; rfl), harg1.read_unread]
    constructor
    · rintro ⟨⟨h0, h1⟩, -, h2⟩
      refine ⟨h0, fun r hr hq => ?_⟩
      rcases Nat.lt_or_ge r.val (512 * n) with hl | hl
      · exact h1 r hl hq
      · have := h2 ⟨(r.val - 512 * n) / 16, by omega⟩ (Finset.mem_univ _)
        rw [e3] at this
        have er : (⟨512 * n + ((r.val - 512 * n) / 16 * 16 + q.val), by omega⟩ : Fin 9216) = r := by
          apply Fin.ext; show 512 * n + ((r.val - 512 * n) / 16 * 16 + q.val) = r.val; omega
        simp only [er] at this
        exact this
    · rintro ⟨h0, h1⟩
      refine ⟨⟨h0, fun r hr hq => h1 r (by omega) hq⟩, bot_le, fun p _ => ?_⟩
      rw [e3]
      have hb : 512 * n + (p.val * 16 + q.val) < 9216 := by omega
      have h3 : 512 * n + (p.val * 16 + q.val) < 512 * (n + 1) := by omega
      have h4 : (512 * n + (p.val * 16 + q.val)) % 16 = q.val := by omega
      exact h1 ⟨512 * n + (p.val * 16 + q.val), hb⟩ h3 h4

/-- The maxima the loop ends with. -/
noncomputable abbrev fin1 := st_k0_t1 (F := Ideal) 𝒱 c bd i arg1 harg1 arg2 harg2 arg3 harg3 arg4 harg4 (harg1.unread x0) k0_pay3 k0_t1_loop.trips

/-- Their maximum is the column's. -/
theorem amax_eq (cc : Fin 256) :
    Finset.fold max (Ideal.ofBits .f32 4286578688#32) (fun q : Fin 16 => fin1 𝒱 c bd i arg1 harg1 arg2 harg2 arg3 harg3 arg4 harg4 x0 (ix2 q cc)) Finset.univ
      = amax (fun r => x0 (ix2 r cc)) := by
  refine colmax_of (fun r => max (x0 (ix2 r cc)) (-(x0 (ix2 r cc)))) (fun r => abs_nonneg _) _ fun q u => ?_
  unfold fin1
  rw [trips1, max_le _ _ _ _ _ _ _ _ _ _ _ _ _ 18 le_rfl]
  exact and_congr_right fun _ => ⟨fun h r hr => h r (by omega) hr, fun h r _ hr => h r hr⟩

/-- Every entry of the block is finite. -/
def Fine : Prop := ∀ r cc, max (x0 (ix2 r cc)) (-(x0 (ix2 r cc))) ≤ Ideal.ofBits .bf16 0x7F7F#16

variable {x0}

/-- The largest magnitude of a bounded column is between zero and the bound. -/
theorem amax_bounds (hx : Fine x0) (cc : Fin 256) : 0 ≤ amax (fun r => x0 (ix2 r cc)) ∧ amax (fun r => x0 (ix2 r cc)) ≤ Ideal.ofBits .bf16 0x7F7F#16 := by
  unfold amax
  rw [Finset.le_fold_max, Finset.fold_max_le, neg_inf]
  exact ⟨Or.inr ⟨0, Finset.mem_univ _, abs_nonneg _⟩, bot_le, fun r _ => hx r cc⟩

/-- The scales the kernel finds. -/
theorem scale (hx : Fine x0) (cc : Fin 256) :
    k0_pay6 (fin1 𝒱 c bd i arg1 harg1 arg2 harg2 arg3 harg3 arg4 harg4 x0) (ix2 0 cc) = SX (fun r c => x0 (ix2 r c)) cc := by
  rw [pay6, pay5, amax_eq]
  exact (scale_x _ (amax_bounds hx cc).1 (amax_bounds hx cc).2).1

/-- The factors the kernel finds. -/
theorem factor (hx : Fine x0) (cc : Fin 256) :
    Ideal.ofBits .f32 (pw (k0_pay7 (fin1 𝒱 c bd i arg1 harg1 arg2 harg2 arg3 harg3 arg4 harg4 x0) (ix2 0 cc)))
      = Ideal.div 1 (SX (fun r c => x0 (ix2 r c)) cc) := by
  rw [pay7, pay5, amax_eq]
  exact (scale_x _ (amax_bounds hx cc).1 (amax_bounds hx cc).2).2

/-- The quantised rows after `n` trips of the second loop. -/
theorem quant (hx : Fine x0) (n : ℕ) (hn : n ≤ 18) (v : View sig .tc .vmem S9216x256 .fp8e4m3) (f : v.ty.Contents (Elt Ideal))
    (r : Fin 9216) (cc : Fin 256) (hr : r.val < 512 * n) :
    v.read (Elt Ideal) (v.writes (Elt Ideal) f (pb_k0_t2 (F := Ideal) 𝒱 c bd i arg1 harg1 arg2 harg2 arg3 harg3 arg4 harg4
      (k0_pay7 (fin1 𝒱 c bd i arg1 harg1 arg2 harg2 arg3 harg3 arg4 harg4 x0)) 23#32 (harg1.unread x0) n)) (ix2 r cc)
      = QX (fun r c => x0 (ix2 r c)) r cc := by
  induction n with
  | zero => omega
  | succ n ih =>
    have hk : n < k0_t2_loop.trips := by rw [trips2]; omega
    have e := pb_k0_t2_succ (F := Ideal) 𝒱 c bd i arg1 harg1 arg2 harg2 arg3 harg3 arg4 harg4
      (k0_pay7 (fin1 𝒱 c bd i arg1 harg1 arg2 harg2 arg3 harg3 arg4 harg4 x0)) 23#32 (harg1.unread x0) ⟨n, hk⟩
    simp only at e
    rw [e]
    have e2 : tripL_k0_t2 (F := Ideal) 𝒱 c bd i arg1 harg1 arg2 harg2 arg3 harg3 arg4 harg4
      (k0_pay7 (fin1 𝒱 c bd i arg1 harg1 arg2 harg2 arg3 harg3 arg4 harg4 x0)) 23#32 (harg1.unread x0) ⟨n, hk⟩
        = [⟨Rect.unit (s := S9216x256) (k0_off2 ⟨n, hk⟩) S512x256.size (k0_off2_inb ⟨n, hk⟩), k0_pay1 (k0_pay7 (fin1 𝒱 c bd i arg1 harg1 arg2 harg2 arg3 harg3 arg4 harg4 x0)) 23#32
          (arg1.view.readAt (Elt Ideal) (Rect.unit (s := S9216x256) (k0_off2 ⟨n, hk⟩) S512x256.size (k0_off2_inb ⟨n, hk⟩)).toLoadRect (harg1.unread x0))⟩] := by
      unfold tripL_k0_t2 trip_k0_t2
      rfl
    rw [e2, List.singleton_append]
    rcases Nat.lt_or_ge r.val (512 * n) with hl | hl
    · rw [View.read_writes_cons_rows_of_not_mem (o := 512 * n) (W := 512) v f _ _ _ (ix2 r cc) (off2 ⟨n, hk⟩) rfl (Or.inl hl)]
      exact ih (by omega) hl
    · rw [View.read_writes_cons_rows_of_mem (size := S512x256.size) (o := 512 * n) v f _ _ _ (ix2 r cc) (ix2 (⟨r.val - 512 * n, by omega⟩ : Fin 512) cc : S512x256.Idx) (off2 ⟨n, hk⟩)
        (by show r.val = 512 * n + (r.val - 512 * n); omega) rfl]
      rw [pay1, factor _ _ _ _ _ _ _ _ _ _ _ _ hx, readAt_rows (size := S512x256.size) (o := 512 * n) _ _ _ (off2 ⟨n, hk⟩) (ix2 (⟨r.val - 512 * n, by omega⟩ : Fin 512) cc : S512x256.Idx) (ix2 r cc) (by show r.val = 512 * n + (r.val - 512 * n); omega) rfl,
        harg1.read_unread, lim1, lim2]
      rfl

/-- The transposed columns after `n` trips of the third loop. -/
theorem transposed (n : ℕ) (hn : n ≤ 18) (v : View sig .tc .vmem S256x9216 .fp8e4m3) (f : v.ty.Contents (Elt Ideal))
    (g : arg2.view.ty.Contents (Elt Ideal)) (r : Fin 9216) (cc : Fin 256) (hr : r.val < 512 * n) :
    v.read (Elt Ideal) (v.writes (Elt Ideal) f (pb_k0_t3 (F := Ideal) 𝒱 c bd i arg1 harg1 arg2 harg2 arg3 harg3 arg4 harg4 g n)) (ix2 cc r)
      = arg2.view.read (Elt Ideal) g (ix2 r cc) := by
  induction n with
  | zero => omega
  | succ n ih =>
    have hk : n < k0_t3_loop.trips := by rw [trips3]; omega
    have e := pb_k0_t3_succ (F := Ideal) 𝒱 c bd i arg1 harg1 arg2 harg2 arg3 harg3 arg4 harg4 g ⟨n, hk⟩
    simp only at e
    rw [e]
    have e2 : tripL_k0_t3 (F := Ideal) 𝒱 c bd i arg1 harg1 arg2 harg2 arg3 harg3 arg4 harg4 g ⟨n, hk⟩
        = [⟨Rect.unit (s := S256x9216) (k0_off4 ⟨n, hk⟩) S256x512.size (k0_off4_inb ⟨n, hk⟩), k0_pay2
          (arg2.view.readAt (Elt Ideal) (Rect.unit (s := S9216x256) (k0_off3 ⟨n, hk⟩) S512x256.size (k0_off3_inb ⟨n, hk⟩)).toLoadRect g)⟩] := by
      unfold tripL_k0_t3 trip_k0_t3
      rfl
    rw [e2, List.singleton_append]
    rcases Nat.lt_or_ge r.val (512 * n) with hl | hl
    · rw [View.read_writes_cons_unit_of_not_mem v f _ _ _ (ix2 cc r) (off4 ⟨n, hk⟩) (1 : Fin 2) (Or.inl hl)]
      exact ih (by omega) hl
    · rw [View.read_writes_cons_unit_of_mem (size := S256x512.size) v f _ _ _ (ix2 cc r) (ix2 cc (⟨r.val - 512 * n, by omega⟩ : Fin 512) : S256x512.Idx) (off4 ⟨n, hk⟩)
        (Fin.forall_fin_two.mpr ⟨by show cc.val = 0 + cc.val; omega, by show r.val = 512 * n + (r.val - 512 * n); omega⟩)]
      rw [pay2, readAt_rows (size := S512x256.size) (o := 512 * n) _ _ _ (off3 ⟨n, hk⟩) (ix2 (⟨r.val - 512 * n, by omega⟩ : Fin 512) cc : S512x256.Idx) (ix2 r cc) (by show r.val = 512 * n + (r.val - 512 * n); omega) rfl]

/-- The block of the quantised activation. -/
theorem out1 (hx : Fine x0) (r : Fin 9216) (cc : Fin 256) :
    out0_A_1 c i arg1 harg1 arg2 harg2 arg3 harg3 arg4 harg4 x0 (ix2 r cc) = QX (fun r c => x0 (ix2 r c)) r cc :=
  (congrFun rfl _).trans (quant Variants.none c none i arg1 harg1 arg2 harg2 arg3 harg3 arg4 harg4 hx 18 le_rfl VO0_1 VO0_1.junk r cc (by omega))

/-- The block of the scales. -/
theorem out2 (hx : Fine x0) (cc : Fin 256) :
    out0_A_2 c i arg1 harg1 arg2 harg2 arg3 harg3 arg4 harg4 x0 (ix2 0 cc) = SX (fun r c => x0 (ix2 r c)) cc := by
  refine Eq.trans ?_ (scale Variants.none c none i arg1 harg1 arg2 harg2 arg3 harg3 arg4 harg4 hx cc)
  unfold out0_A_2 kernelRun0_A
  exact View.read_writes_cons_rows_of_mem (o := 0) VO0_2 VO0_2.junk _ _ _ (ix2 0 cc) (ix2 0 cc) rfl rfl rfl

/-- The block of the transposed activation. -/
theorem out3 (hx : Fine x0) (r : Fin 9216) (cc : Fin 256) :
    out0_A_3 c i arg1 harg1 arg2 harg2 arg3 harg3 arg4 harg4 x0 (ix2 cc r) = QX (fun r c => x0 (ix2 r c)) r cc := by
  refine Eq.trans ?_ (quant Variants.none c none i arg1 harg1 arg2 harg2 arg3 harg3 arg4 harg4 hx 18 le_rfl arg2.view arg2.view.junk r cc (by omega))
  exact (congrFun rfl _).trans (transposed Variants.none c none i arg1 harg1 arg2 harg2 arg3 harg3 arg4 harg4 18 le_rfl VO0_3 VO0_3.junk _ r cc (by omega))

end Cert.Region0
end
-- ==== Proof.Region1.lean ====
module

public import proofs.«01_k».proof.Proof.Region0
@[expose] public section
set_option maxRecDepth 16384

/-! What the second call leaves in its output blocks, entry by entry. -/

namespace Cert.Region1
open Idealize.ShloMosaic Cert.KernelIdeal Cert.KernelIdeal.Gen Cert.KernelIdeal.Run Cert.Spec Cert.Blocks
open Idealize.SL Idealize.SL.Sem

/-- Trip `k` of the first loop reads from row `512 * k`. -/
theorem off1 : ∀ k : Fin k1_t1_loop.trips, k1_off1 k = ![512 * k.val, 0] := by decide +kernel
/-- Trip `k` of the second loop works from row `512 * k`. -/
theorem off2 : ∀ k : Fin k1_t2_loop.trips, k1_off2 k = ![512 * k.val, 0] := by decide +kernel
/-- The first loop makes 18 trips. -/
theorem trips1 : k1_t1_loop.trips = 18 := by decide
/-- The second loop makes 18 trips. -/
theorem trips2 : k1_t2_loop.trips = 18 := by decide

/-- A code is the entry times the inverse scale, clamped. -/
theorem pay1 (v : IVec S1x256 32) (y : Vec Ideal S512x256 .bf16) (r : Fin 512) (c : Fin 256) :
    k1_pay1 v 23#32 y (ix2 r c) = min (Ideal.ofBits .bf16 0x4760#16)
      (max (Ideal.ofBits .bf16 0xC760#16) (y (ix2 r c) * Ideal.ofBits .f32 (pw (v (ix2 0 c))))) := by
  pointwise [k1_pay1]
  rfl

/-- The maxima start at zero. -/
theorem pay3 (r : Fin 16) (c : Fin 256) : k1_pay15 (F := Ideal) (ix2 r c) = 0 := by
  pointwise [k1_pay15]

/-- One trip takes the maximum of what is kept and of the magnitudes of the rows of one residue modulo 16. -/
theorem pay4 (a : FVec Ideal S16x256 .bf16) (y : Vec Ideal S512x256 .bf16) (r : Fin 16) (c : Fin 256) :
    k1_pay16 a y (ix2 r c) = max (a (ix2 r c))
      (Finset.fold max (Ideal.ofBits .bf16 65408#16) (fun q : Fin 32 => FloatOps.absf (F := Ideal) (φ := .bf16) (y (ix2 ⟨↑q * 16 + ↑r, by omega⟩ c))) Finset.univ) := by
  pointwise [k1_pay16]

/-- The exponent of a column from the 16 maxima that are kept. -/
theorem pay5 (a : FVec Ideal S16x256 .bf16) (c : Fin 256) :
    k1_pay17 a (ix2 0 c) = expo (Finset.fold max (Ideal.ofBits .f32 4286578688#32) (fun q : Fin 16 => a (ix2 q c)) Finset.univ * Ideal.ofBits .f32 932333861#32)
      (Finset.fold max (Ideal.ofBits .f32 4286578688#32) (fun q : Fin 16 => a (ix2 q c)) Finset.univ) := by
  pointwise [k1_pay17]
  rfl

/-- The scale is the word built from that exponent. -/
theorem pay6 (a : FVec Ideal S16x256 .bf16) (c : Fin 256) :
    k1_pay18 a (ix2 0 c) = Ideal.ofBits .f32 (pw (IntOp.addi 127#32 (k1_pay17 a (ix2 0 c)))) := by
  pointwise [k1_pay18]
  rfl

/-- The exponent of the inverse scale. -/
theorem pay7 (a : FVec Ideal S16x256 .bf16) (c : Fin 256) :
    k1_pay19 a (ix2 0 c) = IntOp.subi 127#32 (k1_pay17 a (ix2 0 c)) := by
  pointwise [k1_pay19]

variable (𝒱 : Variants) (c : Dev nD) (bd : Option 𝒱.V) (i : grid1.Coords) (arg1 : Memref sig .tc .vmem S1536x9216 .fp8e4m3) (harg1 : arg1.IsWhole) (arg2 : Memref sig .tc .vmem S1536x128 .f32) (harg2 : arg2.IsWhole) (arg3 : Memref sig .tc .vmem S9216x256 .bf16) (harg3 : arg3.IsWhole) (arg4 : Memref sig .tc .vmem S1536x256 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1x256 .f32) (harg7 : arg7.IsWhole) (arg8 : Memref sig .tc .vmem S9216x256 .fp8e5m2) (harg8 : arg8.IsWhole) (arg9 : Memref sig .tc .vmem S1x256 .f32) (harg9 : arg9.IsWhole) (arg10 : Memref sig .tc .vmem S768x256 .i8) (harg10 : arg10.IsWhole)
variable (x2 : Vec Ideal S9216x256 .bf16)

/-- The maxima after `n` trips, as a bound: zero, and the magnitudes of the rows seen. -/
theorem max_le (n : ℕ) (hn : n ≤ 18) (q : Fin 16) (cc : Fin 256) (u : EReal) :
    st_k1_t1 (F := Ideal) 𝒱 c bd i arg1 harg1 arg2 harg2 arg3 harg3 arg4 harg4 arg5 harg5 arg6 harg6 arg7 harg7 arg8 harg8 arg9 harg9 arg10 harg10 (harg3.unread x2) k1_pay15 n (ix2 q cc) ≤ u
      ↔ 0 ≤ u ∧ ∀ r : Fin 9216, r.val < 512 * n → r.val % 16 = q.val → max (x2 (ix2 r cc)) (-(x2 (ix2 r cc))) ≤ u := by
  induction n with
  | zero =>
    rw [st_k1_t1.eq_1, pay3]
    exact ⟨fun h => ⟨h, fun r hr => absurd hr (by omega)⟩, fun h => h.1⟩
  | succ n ih =>
    have hk : n < k1_t1_loop.trips := by rw [trips1]; omega
    have e := st_k1_t1_succ (F := Ideal) 𝒱 c bd i arg1 harg1 arg2 harg2 arg3 harg3 arg4 harg4 arg5 harg5 arg6 harg6 arg7 harg7 arg8 harg8 arg9 harg9 arg10 harg10 (harg3.unread x2) k1_pay15 ⟨n, hk⟩
    simp only at e
    rw [e]
    have e2 : ∀ acc, tripR_k1_t1 (F := Ideal) 𝒱 c bd i arg1 harg1 arg2 harg2 arg3 harg3 arg4 harg4 arg5 harg5 arg6 harg6 arg7 harg7 arg8 harg8 arg9 harg9 arg10 harg10 (harg3.unread x2) ⟨n, hk⟩ acc
        = k1_pay16 acc (arg3.view.readAt (Elt Ideal) (Rect.unit (s := S9216x256) (k1_off1 ⟨n, hk⟩) S512x256.size (k1_off1_inb ⟨n, hk⟩)).toLoadRect (harg3.unread x2)) := by
      intro acc
      unfold tripR_k1_t1 trip_k1_t1
      rfl
    rw [e2, pay4, max_le_iff, ih (by omega), Finset.fold_max_le, neg_inf_bf]
    have e3 : ∀ p : Fin 32, arg3.view.readAt (Elt Ideal) (Rect.unit (s := S9216x256) (k1_off1 ⟨n, hk⟩) S512x256.size (k1_off1_inb ⟨n, hk⟩)).toLoadRect (harg3.unread x2) (ix2 ⟨↑p * 16 + ↑q, by omega⟩ cc)
        = x2 (ix2 ⟨512 * n + (↑p * 16 + ↑q), by omega⟩ cc) := by
      intro p
      rw [readAt_rows (size := S512x256.size) (o := 512 * n) _ _ _ (off1 ⟨n, hk⟩) (ix2 (⟨↑p * 16 + ↑q, by omega⟩ : Fin 512) cc : S512x256.Idx)
        (ix2 (⟨512 * n + (↑p * 16 + ↑q), by omega⟩ : Fin 9216) cc : S9216x256.Idx) (by show 512 * n + (p.val * 16 + q.val) = 512 * n + (p.val * 16 + q.val); rfl) (by show cc.val = cc.val; rfl), harg3.read_unread]
    constructor
    · rintro ⟨⟨h0, h1⟩, -, h2⟩
      refine ⟨h0, fun r hr hq => ?_⟩
      rcases Nat.lt_or_ge r.val (512 * n) with hl | hl
      · exact h1 r hl hq
      · have := h2 ⟨(r.val - 512 * n) / 16, by omega⟩ (Finset.mem_univ _)
        rw [e3] at this
        have er : (⟨512 * n + ((r.val - 512 * n) / 16 * 16 + q.val), by omega⟩ : Fin 9216) = r := by
          apply Fin.ext; show 512 * n + ((r.val - 512 * n) / 16 * 16 + q.val) = r.val; omega
        simp only [er] at this
        exact this
    · rintro ⟨h0, h1⟩
      refine ⟨⟨h0, fun r hr hq => h1 r (by omega) hq⟩, bot_le, fun p _ => ?_⟩
      rw [e3]
      have hb : 512 * n + (p.val * 16 + q.val) < 9216 := by omega
      have h3 : 512 * n + (p.val * 16 + q.val) < 512 * (n + 1) := by omega
      have h4 : (512 * n + (p.val * 16 + q.val)) % 16 = q.val := by omega
      exact h1 ⟨512 * n + (p.val * 16 + q.val), hb⟩ h3 h4

/-- The maxima the loop ends with. -/
noncomputable abbrev fin1 := st_k1_t1 (F := Ideal) 𝒱 c bd i arg1 harg1 arg2 harg2 arg3 harg3 arg4 harg4 arg5 harg5 arg6 harg6 arg7 harg7 arg8 harg8 arg9 harg9 arg10 harg10 (harg3.unread x2) k1_pay15 k1_t1_loop.trips

/-- Their maximum is the column's. -/
theorem amax_eq (cc : Fin 256) :
    Finset.fold max (Ideal.ofBits .f32 4286578688#32) (fun q : Fin 16 => fin1 𝒱 c bd i arg1 harg1 arg2 harg2 arg3 harg3 arg4 harg4 arg5 harg5 arg6 harg6 arg7 harg7 arg8 harg8 arg9 harg9 arg10 harg10 x2 (ix2 q cc)) Finset.univ
      = amax (fun r => x2 (ix2 r cc)) := by
  refine colmax_of (fun r => max (x2 (ix2 r cc)) (-(x2 (ix2 r cc)))) (fun r => abs_nonneg _) _ fun q u => ?_
  unfold fin1
  rw [trips1, max_le _ _ _ _ _ _ _ _ _ _ _ _ _ _ _ _ _ _ _ _ _ _ _ _ _ 18 le_rfl]
  exact and_congr_right fun _ => ⟨fun h r hr => h r (by omega) hr, fun h r _ hr => h r hr⟩

/-- Every entry of the block is finite. -/
def Fine : Prop := ∀ r cc, max (x2 (ix2 r cc)) (-(x2 (ix2 r cc))) ≤ Ideal.ofBits .bf16 0x7F7F#16

variable {x2}

/-- The largest magnitude of a bounded column is between zero and the bound. -/
theorem amax_bounds (hx : Fine x2) (cc : Fin 256) : 0 ≤ amax (fun r => x2 (ix2 r cc)) ∧ amax (fun r => x2 (ix2 r cc)) ≤ Ideal.ofBits .bf16 0x7F7F#16 := by
  unfold amax
  rw [Finset.le_fold_max, Finset.fold_max_le, neg_inf]
  exact ⟨Or.inr ⟨0, Finset.mem_univ _, abs_nonneg _⟩, bot_le, fun r _ => hx r cc⟩

/-- The scales the kernel finds. -/
theorem scale (hx : Fine x2) (cc : Fin 256) :
    k1_pay18 (fin1 𝒱 c bd i arg1 harg1 arg2 harg2 arg3 harg3 arg4 harg4 arg5 harg5 arg6 harg6 arg7 harg7 arg8 harg8 arg9 harg9 arg10 harg10 x2) (ix2 0 cc) = SY (fun r c => x2 (ix2 r c)) cc := by
  rw [pay6, pay5, amax_eq]
  exact (scale_y _ (amax_bounds hx cc).1 (amax_bounds hx cc).2).1

/-- The factors the kernel finds. -/
theorem factor (hx : Fine x2) (cc : Fin 256) :
    Ideal.ofBits .f32 (pw (k1_pay19 (fin1 𝒱 c bd i arg1 harg1 arg2 harg2 arg3 harg3 arg4 harg4 arg5 harg5 arg6 harg6 arg7 harg7 arg8 harg8 arg9 harg9 arg10 harg10 x2) (ix2 0 cc)))
      = Ideal.div 1 (SY (fun r c => x2 (ix2 r c)) cc) := by
  rw [pay7, pay5, amax_eq]
  exact (scale_y _ (amax_bounds hx cc).1 (amax_bounds hx cc).2).2

/-- The quantised rows after `n` trips of the second loop. -/
theorem quant (hx : Fine x2) (n : ℕ) (hn : n ≤ 18) (v : View sig .tc .vmem S9216x256 .fp8e5m2) (f : v.ty.Contents (Elt Ideal))
    (r : Fin 9216) (cc : Fin 256) (hr : r.val < 512 * n) :
    v.read (Elt Ideal) (v.writes (Elt Ideal) f (pb_k1_t2 (F := Ideal) 𝒱 c bd i arg1 harg1 arg2 harg2 arg3 harg3 arg4 harg4 arg5 harg5 arg6 harg6 arg7 harg7 arg8 harg8 arg9 harg9 arg10 harg10
      (k1_pay19 (fin1 𝒱 c bd i arg1 harg1 arg2 harg2 arg3 harg3 arg4 harg4 arg5 harg5 arg6 harg6 arg7 harg7 arg8 harg8 arg9 harg9 arg10 harg10 x2)) 23#32 (harg3.unread x2) n)) (ix2 r cc)
      = QY (fun r c => x2 (ix2 r c)) r cc := by
  induction n with
  | zero => omega
  | succ n ih =>
    have hk : n < k1_t2_loop.trips := by rw [trips2]; omega
    have e := pb_k1_t2_succ (F := Ideal) 𝒱 c bd i arg1 harg1 arg2 harg2 arg3 harg3 arg4 harg4 arg5 harg5 arg6 harg6 arg7 harg7 arg8 harg8 arg9 harg9 arg10 harg10
      (k1_pay19 (fin1 𝒱 c bd i arg1 harg1 arg2 harg2 arg3 harg3 arg4 harg4 arg5 harg5 arg6 harg6 arg7 harg7 arg8 harg8 arg9 harg9 arg10 harg10 x2)) 23#32 (harg3.unread x2) ⟨n, hk⟩
    simp only at e
    rw [e]
    have e2 : tripL_k1_t2 (F := Ideal) 𝒱 c bd i arg1 harg1 arg2 harg2 arg3 harg3 arg4 harg4 arg5 harg5 arg6 harg6 arg7 harg7 arg8 harg8 arg9 harg9 arg10 harg10
      (k1_pay19 (fin1 𝒱 c bd i arg1 harg1 arg2 harg2 arg3 harg3 arg4 harg4 arg5 harg5 arg6 harg6 arg7 harg7 arg8 harg8 arg9 harg9 arg10 harg10 x2)) 23#32 (harg3.unread x2) ⟨n, hk⟩
        = [⟨Rect.unit (s := S9216x256) (k1_off2 ⟨n, hk⟩) S512x256.size (k1_off2_inb ⟨n, hk⟩), k1_pay1 (k1_pay19 (fin1 𝒱 c bd i arg1 harg1 arg2 harg2 arg3 harg3 arg4 harg4 arg5 harg5 arg6 harg6 arg7 harg7 arg8 harg8 arg9 harg9 arg10 harg10 x2)) 23#32
          (arg3.view.readAt (Elt Ideal) (Rect.unit (s := S9216x256) (k1_off2 ⟨n, hk⟩) S512x256.size (k1_off2_inb ⟨n, hk⟩)).toLoadRect (harg3.unread x2))⟩] := by
      unfold tripL_k1_t2 trip_k1_t2
      rfl
    rw [e2, List.singleton_append]
    rcases Nat.lt_or_ge r.val (512 * n) with hl | hl
    · rw [View.read_writes_cons_rows_of_not_mem (o := 512 * n) (W := 512) v f _ _ _ (ix2 r cc) (off2 ⟨n, hk⟩) rfl (Or.inl hl)]
      exact ih (by omega) hl
    · rw [View.read_writes_cons_rows_of_mem (size := S512x256.size) (o := 512 * n) v f _ _ _ (ix2 r cc) (ix2 (⟨r.val - 512 * n, by omega⟩ : Fin 512) cc : S512x256.Idx) (off2 ⟨n, hk⟩)
        (by show r.val = 512 * n + (r.val - 512 * n); omega) rfl]
      rw [pay1, factor _ _ _ _ _ _ _ _ _ _ _ _ _ _ _ _ _ _ _ _ _ _ _ _ hx, readAt_rows (size := S512x256.size) (o := 512 * n) _ _ _ (off2 ⟨n, hk⟩) (ix2 (⟨r.val - 512 * n, by omega⟩ : Fin 512) cc : S512x256.Idx) (ix2 r cc) (by show r.val = 512 * n + (r.val - 512 * n); omega) rfl,
        harg3.read_unread, lim3, lim4]
      rfl

/-- Trip `k` of the third loop works from row `256 * k` of the weights and of the product. -/
theorem off3 : ∀ k : Fin k1_t3_loop.trips, k1_off3 k = ![256 * k.val, 0] := by decide +kernel
/-- Trip `k` of the third loop reads the scales from row `256 * k`. -/
theorem off4 : ∀ k : Fin k1_t3_loop.trips, k1_off4 k = ![256 * k.val, 0] := by decide +kernel
/-- Trip `k` of the third loop writes the packed weights from row `128 * k`. -/
theorem off5 : ∀ k : Fin k1_t3_loop.trips, k1_off5 k = ![128 * k.val, 0] := by decide +kernel
/-- The third loop makes 6 trips. -/
theorem trips3 : k1_t3_loop.trips = 6 := by decide

/-! A clamped and rounded weight is an integer between -8 and 7. -/

/-- A rounded and clamped number is an integer from -8 to 7. -/
theorem qf_int (v : EReal) : ∃ z : ℤ, -8 ≤ z ∧ z ≤ 7 ∧ qf v = ((z : ℝ) : EReal) := by
  have a : ((7#32).toInt : ℝ) = 7 := by norm_num [show (7#32).toInt = 7 from by decide]
  have b : ((4294967288#32).toInt : ℝ) = -8 := by norm_num [show (4294967288#32).toInt = -8 from by decide]
  unfold qf
  rw [a, b]
  induction v using EReal.rec with
  | bot => exact ⟨-8, le_rfl, by norm_num, by
      rw [show Ideal.liftRound Ideal.roundHalfEven ⊥ = ⊥ from rfl, max_eq_left bot_le, min_eq_right (by exact_mod_cast (by norm_num : (-8 : ℝ) ≤ 7))]; norm_num⟩
  | top => exact ⟨7, by norm_num, le_rfl, by
      rw [show Ideal.liftRound Ideal.roundHalfEven ⊤ = ⊤ from rfl, max_eq_right le_top, min_eq_left le_top]; norm_num⟩
  | coe r =>
    refine ⟨min 7 (max (-8) (Ideal.roundHalfEven r)), by omega, by omega, ?_⟩
    rw [show Ideal.liftRound Ideal.roundHalfEven (r : EReal) = (((Ideal.roundHalfEven r : ℤ) : ℝ) : EReal) from rfl]
    rw [Int.cast_min, Int.cast_max, EReal.coe_strictMono.monotone.map_min, EReal.coe_strictMono.monotone.map_max]
    norm_num

/-- Clamping an integer that is in range changes nothing. -/
theorem clamp_int (lo hi z : ℤ) (h1 : lo ≤ z) (h2 : z ≤ hi) : Ideal.toIntClamped lo hi ((z : ℝ) : EReal) = z := by
  rw [Ideal.toIntClamped_coe, Int.floor_intCast, Int.ceil_intCast, ite_self]
  omega

/-- The weight taken to an integer of eight bits and back is itself. -/
theorem qf_back (v : EReal) : FloatOps.sitofp (F := Ideal) .f32 (FloatOps.fptosi (F := Ideal) (φ := .f32) 8 (qf v)) = qf v := by
  obtain ⟨z, h1, h2, h⟩ := qf_int v
  rw [h]
  show (((BitVec.ofInt 8 (Ideal.toIntClamped (-(2 ^ (8 - 1) : ℕ)) ((2 ^ (8 - 1) : ℕ) - 1) _)).toInt : ℝ) : EReal) = _
  rw [clamp_int _ _ z (by norm_num; omega) (by norm_num; omega), BitVec.toInt_ofInt]
  congr 2
  rw [Int.bmod_eq_of_le] <;> norm_num <;> omega

/-- The weight taken to an integer of thirty-two bits is that of eight bits, extended. -/
theorem qf_wide (v : EReal) : FloatOps.fptosi (F := Ideal) (φ := .f32) 32 (qf v) = BitVec.signExtend 32 (FloatOps.fptosi (F := Ideal) (φ := .f32) 8 (qf v)) := by
  obtain ⟨z, h1, h2, h⟩ := qf_int v
  rw [h]
  show BitVec.ofInt 32 (Ideal.toIntClamped (-(2 ^ (32 - 1) : ℕ)) ((2 ^ (32 - 1) : ℕ) - 1) _) = BitVec.signExtend 32 (BitVec.ofInt 8 (Ideal.toIntClamped (-(2 ^ (8 - 1) : ℕ)) ((2 ^ (8 - 1) : ℕ) - 1) _))
  rw [clamp_int _ _ z (by norm_num; omega) (by norm_num; omega), clamp_int _ _ z (by norm_num; omega) (by norm_num; omega)]
  interval_cases z <;> decide

/-! The third loop's arithmetic. -/

/-- An entry of the product of the two blocks of codes. -/
theorem pay2m (x : Vec Ideal S1536x9216 .fp8e4m3) (y : Vec Ideal S9216x256 .fp8e5m2) (r : Fin 1536) (cc : Fin 256) :
    k1_pay2 x y (ix2 r cc) = ∑ k, x (ix2 r k) * y (ix2 k cc) := by
  pointwise [k1_pay2]

/-- The row of weight steps is used as it is. -/
theorem pay3v (x : Vec Ideal S1x256 .f32) (cc : Fin 256) : k1_pay3 x (ix2 0 cc) = x (ix2 0 cc) := by
  pointwise [k1_pay3]

/-- The partial sums start at zero. -/
theorem pay4z (q : Fin 8) (cc : Fin 256) : k1_pay4 (F := Ideal) (ix2 q cc) = 0 := by
  pointwise [k1_pay4]

/-- A packed entry joins the low nibbles of two neighbouring rows. -/
theorem pay5p (y : IVec S256x256 32) (r : Fin 128) (cc : Fin 256) :
    k1_pay5 y k1_pay14 (ix2 r cc) = BitVec.setWidth 8
    (IntOp.ori (IntOp.andi (y (ix2 ⟨↑r * 2, by omega⟩ cc)) 15#32)
      (IntOp.shli ArithUnit.vector (IntOp.andi (y (ix2 ⟨↑r * 2 + 1, by omega⟩ cc)) 15#32) 4#32)) := by
  pointwise [k1_pay5, k1_pay14]

/-- One trip adds the rows of one residue modulo 8 to a partial sum. -/
theorem pay6s (acc : FVec Ideal S8x256 .f32) (z y : FVec Ideal S256x256 .f32) (q : Fin 8) (cc : Fin 256) :
    k1_pay6 acc z y (ix2 q cc) = acc (ix2 q cc) + ∑ p : Fin 32, y (ix2 ⟨↑p * 8 + ↑q, by omega⟩ cc) * z (ix2 ⟨↑p * 8 + ↑q, by omega⟩ cc) := by
  pointwise [k1_pay6]

/-- The gradient of a step is a constant times the sum of the 8 partial sums. -/
theorem pay7s (x : FVec Ideal S8x256 .f32) (cc : Fin 256) :
    k1_pay7 x (ix2 0 cc) = Ideal.ofBits .f32 1008599475#32 * ∑ q : Fin 8, x (ix2 q cc) := by
  pointwise [k1_pay7]

/-- The product scaled back by the two scales. -/
theorem pay8g (v : FVec Ideal S1x256 .f32) (z : Vec Ideal S256x256 .f32) (a : Vec Ideal S256x1 .f32) (r cc : Fin 256) :
    k1_pay8 v z a (ix2 r cc) = z (ix2 r cc) * a (ix2 r 0) * v (ix2 0 cc) := by
  pointwise [k1_pay8]

/-- A weight over its step. -/
theorem pay9d (w : FVec Ideal S1x256 .f32) (b : Vec Ideal S256x256 .f32) (r cc : Fin 256) :
    k1_pay9 w b (ix2 r cc) = Ideal.div (b (ix2 r cc)) (w (ix2 0 cc)) := by
  pointwise [k1_pay9]

/-- That quotient rounded and clamped. -/
theorem pay10q (w : FVec Ideal S1x256 .f32) (b : Vec Ideal S256x256 .f32) (r cc : Fin 256) :
    k1_pay10 w b (ix2 r cc) = qf (Ideal.div (b (ix2 r cc)) (w (ix2 0 cc))) := by
  pointwise [k1_pay10, k1_pay9]
  rfl

/-- The gradient of the weights keeps the product where the quotient is in range. -/
theorem pay11g (v w : FVec Ideal S1x256 .f32) (z : Vec Ideal S256x256 .f32) (a : Vec Ideal S256x1 .f32) (b : Vec Ideal S256x256 .f32) (r cc : Fin 256) :
    k1_pay11 v w z a b (ix2 r cc) = pass (Ideal.div (b (ix2 r cc)) (w (ix2 0 cc))) (z (ix2 r cc) * a (ix2 r 0) * v (ix2 0 cc)) := by
  pointwise [k1_pay11, k1_pay9, k1_pay8]
  rfl

/-- The factor of the product in the gradient of the step. -/
theorem pay12s (w : FVec Ideal S1x256 .f32) (b : Vec Ideal S256x256 .f32) (r cc : Fin 256) :
    k1_pay12 w b (ix2 r cc) = Spec.slope (Ideal.div (b (ix2 r cc)) (w (ix2 0 cc))) := by
  unfold Spec.slope
  rw [qf_back]
  pointwise [k1_pay12, k1_pay10, k1_pay9]
  rfl

/-- The integer weight, in 32 bits. -/
theorem pay13i (w : FVec Ideal S1x256 .f32) (b : Vec Ideal S256x256 .f32) (r cc : Fin 256) :
    k1_pay13 w b (ix2 r cc) = BitVec.signExtend 32 (FloatOps.fptosi (F := Ideal) (φ := .f32) 8 (qf (Ideal.div (b (ix2 r cc)) (w (ix2 0 cc))))) := by
  rw [← qf_wide]
  pointwise [k1_pay13, k1_pay10, k1_pay9]
  rfl

/-! The third loop. -/

variable (v37 : FVec Ideal S1x256 .f32) (v55 : Vec Ideal S1x256 .f32) (x1 : Vec Ideal S1536x128 .f32) (x3 : Vec Ideal S1536x256 .f32)
variable (G6 : BufTy.Contents (Elt Ideal) arg6.view.ty) (G10 : BufTy.Contents (Elt Ideal) arg10.view.ty)

/-- What a trip of the third loop carries on, in terms of what it reads. -/
theorem tripR_eq (k : Fin k1_t3_loop.trips) (acc : FVec Ideal S8x256 .f32) (f6 : BufTy.Contents (Elt Ideal) arg6.view.ty) (f10 : BufTy.Contents (Elt Ideal) arg10.view.ty) :
    tripR_k1_t3 (F := Ideal) 𝒱 c bd i arg1 harg1 arg2 harg2 arg3 harg3 arg4 harg4 arg5 harg5 arg6 harg6 arg7 harg7 arg8 harg8 arg9 harg9 arg10 harg10 v37 v55 (harg2.unread x1) (harg4.unread x3) k acc f6 f10
      = k1_pay6 acc (k1_pay8 v37 (arg6.view.readAt (Elt Ideal) (Rect.unit (s := S1536x256) (k1_off3 k) S256x256.size (k1_off3_inb k)).toLoadRect f6)
          (arg2.view.readAt (Elt Ideal) (Rect.unit (s := S1536x128) (k1_off4 k) S256x1.size (k1_off4_inb k)).toLoadRect (harg2.unread x1)))
        (k1_pay12 (k1_pay3 v55) (arg4.view.readAt (Elt Ideal) (Rect.unit (s := S1536x256) (k1_off3 k) S256x256.size (k1_off3_inb k)).toLoadRect (harg4.unread x3))) := by
  unfold tripR_k1_t3 trip_k1_t3
  rfl

/-- What a trip of the third loop writes, in terms of what it reads. -/
theorem tripL_eq (k : Fin k1_t3_loop.trips) (acc : FVec Ideal S8x256 .f32) (f6 : BufTy.Contents (Elt Ideal) arg6.view.ty) (f10 : BufTy.Contents (Elt Ideal) arg10.view.ty) :
    tripL_k1_t3 (F := Ideal) 𝒱 c bd i arg1 harg1 arg2 harg2 arg3 harg3 arg4 harg4 arg5 harg5 arg6 harg6 arg7 harg7 arg8 harg8 arg9 harg9 arg10 harg10 v37 v55 (harg2.unread x1) (harg4.unread x3) k acc f6 f10
      = ([⟨Rect.unit (s := S1536x256) (k1_off3 k) S256x256.size (k1_off3_inb k), k1_pay11 v37 (k1_pay3 v55) (arg6.view.readAt (Elt Ideal) (Rect.unit (s := S1536x256) (k1_off3 k) S256x256.size (k1_off3_inb k)).toLoadRect f6)
          (arg2.view.readAt (Elt Ideal) (Rect.unit (s := S1536x128) (k1_off4 k) S256x1.size (k1_off4_inb k)).toLoadRect (harg2.unread x1))
          (arg4.view.readAt (Elt Ideal) (Rect.unit (s := S1536x256) (k1_off3 k) S256x256.size (k1_off3_inb k)).toLoadRect (harg4.unread x3))⟩],
        [⟨Rect.unit (s := S768x256) (k1_off5 k) S128x256.size (k1_off5_inb k), k1_pay5 (k1_pay13 (k1_pay3 v55) (arg4.view.readAt (Elt Ideal) (Rect.unit (s := S1536x256) (k1_off3 k) S256x256.size (k1_off3_inb k)).toLoadRect (harg4.unread x3))) k1_pay14⟩]) := by
  unfold tripL_k1_t3 trip_k1_t3
  rfl

/-- The third loop's state before trip `n`. -/
noncomputable abbrev st3 (n : ℕ) := st_k1_t3 (F := Ideal) 𝒱 c bd i arg1 harg1 arg2 harg2 arg3 harg3 arg4 harg4 arg5 harg5 arg6 harg6 arg7 harg7 arg8 harg8 arg9 harg9 arg10 harg10 v37 v55 (harg2.unread x1) (harg4.unread x3) G6 G10 k1_pay4 n

/-- The two reads of a trip that do not change. -/
theorem read2 (n : ℕ) (hk : n < k1_t3_loop.trips) (hn : n < 6) (r : Fin 256) :
    arg2.view.readAt (Elt Ideal) (Rect.unit (s := S1536x128) (k1_off4 ⟨n, hk⟩) S256x1.size (k1_off4_inb ⟨n, hk⟩)).toLoadRect (harg2.unread x1) (ix2 r (0 : Fin 1) : S256x1.Idx)
      = x1 (ix2 (⟨256 * n + r.val, by omega⟩ : Fin 1536) (0 : Fin 128)) := by
  rw [readAt_rows (size := S256x1.size) (o := 256 * n) _ _ _ (off4 ⟨n, hk⟩) (ix2 r (0 : Fin 1) : S256x1.Idx) (ix2 (⟨256 * n + r.val, by omega⟩ : Fin 1536) (0 : Fin 128) : S1536x128.Idx)
    (by show 256 * n + r.val = 256 * n + r.val; rfl) (by show 0 = 0; rfl), harg2.read_unread]

/-- The weights a trip reads. -/
theorem read4 (n : ℕ) (hk : n < k1_t3_loop.trips) (hn : n < 6) (r cc : Fin 256) :
    arg4.view.readAt (Elt Ideal) (Rect.unit (s := S1536x256) (k1_off3 ⟨n, hk⟩) S256x256.size (k1_off3_inb ⟨n, hk⟩)).toLoadRect (harg4.unread x3) (ix2 r cc : S256x256.Idx)
      = x3 (ix2 (⟨256 * n + r.val, by omega⟩ : Fin 1536) cc) := by
  rw [readAt_rows (size := S256x256.size) (o := 256 * n) _ _ _ (off3 ⟨n, hk⟩) (ix2 r cc : S256x256.Idx) (ix2 (⟨256 * n + r.val, by omega⟩ : Fin 1536) cc : S1536x256.Idx)
    (by show 256 * n + r.val = 256 * n + r.val; rfl) (by show cc.val = cc.val; rfl), harg4.read_unread]

/-- The rows still to come are unchanged. -/
theorem rest (n : ℕ) (hn : n ≤ 6) (v : View sig .tc .vmem S1536x256 .f32) (f : v.ty.Contents (Elt Ideal)) (r : Fin 1536) (cc : Fin 256) (hr : 256 * n ≤ r.val) :
    v.read (Elt Ideal) (v.writes (Elt Ideal) f (st3 𝒱 c bd i arg1 harg1 arg2 harg2 arg3 harg3 arg4 harg4 arg5 harg5 arg6 harg6 arg7 harg7 arg8 harg8 arg9 harg9 arg10 harg10 v37 v55 x1 x3 G6 G10 n).2.1) (ix2 r cc) = v.read (Elt Ideal) f (ix2 r cc) := by
  induction n with
  | zero => rfl
  | succ n ih =>
    have hk : n < k1_t3_loop.trips := by rw [trips3]; omega
    have e := st_k1_t3_succ (F := Ideal) 𝒱 c bd i arg1 harg1 arg2 harg2 arg3 harg3 arg4 harg4 arg5 harg5 arg6 harg6 arg7 harg7 arg8 harg8 arg9 harg9 arg10 harg10 v37 v55 (harg2.unread x1) (harg4.unread x3) G6 G10 k1_pay4 ⟨n, hk⟩
    rw [tripL_eq] at e; simp only at e
    unfold st3
    rw [e]
    simp only [List.singleton_append]
    rw [View.read_writes_cons_rows_of_not_mem (size := S256x256.size) (o := 256 * n) (W := 256) v f _ _ _ (ix2 r cc) (off3 ⟨n, hk⟩) rfl (Or.inr (by show 256 * n + 256 ≤ r.val; omega))]
    exact ih (by omega) (by omega)

/-- The part of the product a trip reads is not yet overwritten. -/
theorem read6 (n : ℕ) (hk : n < k1_t3_loop.trips) (hn : n < 6) (r cc : Fin 256) :
    arg6.view.readAt (Elt Ideal) (Rect.unit (s := S1536x256) (k1_off3 ⟨n, hk⟩) S256x256.size (k1_off3_inb ⟨n, hk⟩)).toLoadRect
      (arg6.view.writes (Elt Ideal) G6 (st3 𝒱 c bd i arg1 harg1 arg2 harg2 arg3 harg3 arg4 harg4 arg5 harg5 arg6 harg6 arg7 harg7 arg8 harg8 arg9 harg9 arg10 harg10 v37 v55 x1 x3 G6 G10 n).2.1) (ix2 r cc : S256x256.Idx)
      = arg6.view.read (Elt Ideal) G6 (ix2 (⟨256 * n + r.val, by omega⟩ : Fin 1536) cc) := by
  rw [readAt_rows (size := S256x256.size) (o := 256 * n) _ _ _ (off3 ⟨n, hk⟩) (ix2 r cc : S256x256.Idx) (ix2 (⟨256 * n + r.val, by omega⟩ : Fin 1536) cc : S1536x256.Idx)
    (by show 256 * n + r.val = 256 * n + r.val; rfl) (by show cc.val = cc.val; rfl)]
  exact rest 𝒱 c bd i arg1 harg1 arg2 harg2 arg3 harg3 arg4 harg4 arg5 harg5 arg6 harg6 arg7 harg7 arg8 harg8 arg9 harg9 arg10 harg10 v37 v55 x1 x3 G6 G10 n (by omega) arg6.view G6 _ cc (by show 256 * n ≤ 256 * n + r.val; omega)

/-- The rows of the gradient a trip has passed. -/
theorem done (n : ℕ) (hn : n ≤ 6) (v : View sig .tc .vmem S1536x256 .f32) (f : v.ty.Contents (Elt Ideal)) (r : Fin 1536) (cc : Fin 256) (hr : r.val < 256 * n) :
    v.read (Elt Ideal) (v.writes (Elt Ideal) f (st3 𝒱 c bd i arg1 harg1 arg2 harg2 arg3 harg3 arg4 harg4 arg5 harg5 arg6 harg6 arg7 harg7 arg8 harg8 arg9 harg9 arg10 harg10 v37 v55 x1 x3 G6 G10 n).2.1) (ix2 r cc)
      = pass (Ideal.div (x3 (ix2 r cc)) (v55 (ix2 0 cc))) (arg6.view.read (Elt Ideal) G6 (ix2 r cc) * x1 (ix2 r 0) * v37 (ix2 0 cc)) := by
  induction n with
  | zero => omega
  | succ n ih =>
    have hk : n < k1_t3_loop.trips := by rw [trips3]; omega
    have e := st_k1_t3_succ (F := Ideal) 𝒱 c bd i arg1 harg1 arg2 harg2 arg3 harg3 arg4 harg4 arg5 harg5 arg6 harg6 arg7 harg7 arg8 harg8 arg9 harg9 arg10 harg10 v37 v55 (harg2.unread x1) (harg4.unread x3) G6 G10 k1_pay4 ⟨n, hk⟩
    rw [tripL_eq] at e; simp only at e
    unfold st3
    rw [e]
    simp only [List.singleton_append]
    rcases Nat.lt_or_ge r.val (256 * n) with hl | hl
    · rw [View.read_writes_cons_rows_of_not_mem (size := S256x256.size) (o := 256 * n) (W := 256) v f _ _ _ (ix2 r cc) (off3 ⟨n, hk⟩) rfl (Or.inl hl)]
      exact ih (by omega) hl
    · rw [View.read_writes_cons_rows_of_mem (size := S256x256.size) (o := 256 * n) v f _ _ _ (ix2 r cc) (ix2 (⟨r.val - 256 * n, by omega⟩ : Fin 256) cc : S256x256.Idx) (off3 ⟨n, hk⟩)
        (by show r.val = 256 * n + (r.val - 256 * n); omega) rfl]
      have er : (⟨256 * n + (r.val - 256 * n), by omega⟩ : Fin 1536) = r := Fin.ext (by show 256 * n + (r.val - 256 * n) = r.val; omega)
      have h6 := read6 𝒱 c bd i arg1 harg1 arg2 harg2 arg3 harg3 arg4 harg4 arg5 harg5 arg6 harg6 arg7 harg7 arg8 harg8 arg9 harg9 arg10 harg10 v37 v55 x1 x3 G6 G10 n hk (by omega) ⟨r.val - 256 * n, by omega⟩ cc
      have h2 := read2 arg2 harg2 x1 n hk (by omega) ⟨r.val - 256 * n, by omega⟩
      have h4 := read4 arg4 harg4 x3 n hk (by omega) ⟨r.val - 256 * n, by omega⟩ cc
      simp only [er] at h6 h2 h4
      rw [pay11g, pay3v, h6, h2, h4]

/-- One term of the sum for a column's scale, as a function of the row. -/
noncomputable def term (M : Fin 1536 → EReal) (V : Fin 1536 → EReal) (m : ℕ) : EReal :=
  if h : m < 1536 then Spec.slope (V ⟨m, h⟩) * M ⟨m, h⟩ else 0

/-- The partial sums. -/
theorem sums (n : ℕ) (hn : n ≤ 6) (q : Fin 8) (cc : Fin 256) :
    (st3 𝒱 c bd i arg1 harg1 arg2 harg2 arg3 harg3 arg4 harg4 arg5 harg5 arg6 harg6 arg7 harg7 arg8 harg8 arg9 harg9 arg10 harg10 v37 v55 x1 x3 G6 G10 n).1 (ix2 q cc)
      = ∑ p ∈ Finset.range (32 * n), term (fun r => arg6.view.read (Elt Ideal) G6 (ix2 r cc) * x1 (ix2 r 0) * v37 (ix2 0 cc))
          (fun r => Ideal.div (x3 (ix2 r cc)) (v55 (ix2 0 cc))) (p * 8 + q.val) := by
  induction n with
  | zero => exact pay4z q cc
  | succ n ih =>
    have hk : n < k1_t3_loop.trips := by rw [trips3]; omega
    have e := st_k1_t3_succ (F := Ideal) 𝒱 c bd i arg1 harg1 arg2 harg2 arg3 harg3 arg4 harg4 arg5 harg5 arg6 harg6 arg7 harg7 arg8 harg8 arg9 harg9 arg10 harg10 v37 v55 (harg2.unread x1) (harg4.unread x3) G6 G10 k1_pay4 ⟨n, hk⟩
    rw [tripR_eq] at e; simp only at e
    unfold st3
    rw [e]
    show k1_pay6 (st3 𝒱 c bd i arg1 harg1 arg2 harg2 arg3 harg3 arg4 harg4 arg5 harg5 arg6 harg6 arg7 harg7 arg8 harg8 arg9 harg9 arg10 harg10 v37 v55 x1 x3 G6 G10 n).1 _ _ (ix2 q cc) = _
    rw [pay6s, ih (by omega), Nat.mul_succ, Finset.sum_range_add]
    congr 1
    rw [Finset.sum_range]
    refine Finset.sum_congr rfl fun p _ => ?_
    have hb : (32 * n + p.val) * 8 + q.val < 1536 := by omega
    have er : (⟨256 * n + (p.val * 8 + q.val), by omega⟩ : Fin 1536) = ⟨(32 * n + p.val) * 8 + q.val, hb⟩ := Fin.ext (by show 256 * n + (p.val * 8 + q.val) = (32 * n + p.val) * 8 + q.val; omega)
    have h6 := read6 𝒱 c bd i arg1 harg1 arg2 harg2 arg3 harg3 arg4 harg4 arg5 harg5 arg6 harg6 arg7 harg7 arg8 harg8 arg9 harg9 arg10 harg10 v37 v55 x1 x3 G6 G10 n hk (by omega) ⟨p.val * 8 + q.val, by omega⟩ cc
    have h2 := read2 arg2 harg2 x1 n hk (by omega) ⟨p.val * 8 + q.val, by omega⟩
    have h4 := read4 arg4 harg4 x3 n hk (by omega) ⟨p.val * 8 + q.val, by omega⟩ cc
    simp only [er] at h6 h2 h4
    rw [pay8g, pay12s, pay3v, h6, h2, h4]
    unfold term
    rw [dif_pos hb]

/-- Eight strided sums make the sum over the rows. -/
theorem strided (M V : Fin 1536 → EReal) :
    ∑ q : Fin 8, ∑ p ∈ Finset.range 192, term M V (p * 8 + q.val) = ∑ r, Spec.slope (V r) * M r := by
  rw [Finset.sum_comm, Finset.sum_range, ← Finset.sum_product']
  refine (Fintype.sum_equiv (finProdFinEquiv (m := 192) (n := 8)) _ _ fun x => ?_).trans rfl
  have hb : x.1.val * 8 + x.2.val < 1536 := by omega
  unfold term
  rw [dif_pos hb]
  have er : (⟨x.1.val * 8 + x.2.val, hb⟩ : Fin 1536) = finProdFinEquiv x := Fin.ext (by show x.1.val * 8 + x.2.val = x.2.val + 8 * x.1.val; omega)
  rw [er]

/-- The bytes a trip has stored. -/
theorem packed (n : ℕ) (hn : n ≤ 6) (v : View sig .tc .vmem S768x256 .i8) (f : v.ty.Contents (Elt Ideal)) (r : Fin 768) (cc : Fin 256) (hr : r.val < 128 * n) :
    v.read (Elt Ideal) (v.writes (Elt Ideal) f (st3 𝒱 c bd i arg1 harg1 arg2 harg2 arg3 harg3 arg4 harg4 arg5 harg5 arg6 harg6 arg7 harg7 arg8 harg8 arg9 harg9 arg10 harg10 v37 v55 x1 x3 G6 G10 n).2.2) (ix2 r cc)
      = pack (Ideal.div (x3 (ix2 ⟨r.val * 2, by omega⟩ cc)) (v55 (ix2 0 cc))) (Ideal.div (x3 (ix2 ⟨r.val * 2 + 1, by omega⟩ cc)) (v55 (ix2 0 cc))) := by
  induction n with
  | zero => omega
  | succ n ih =>
    have hk : n < k1_t3_loop.trips := by rw [trips3]; omega
    have e := st_k1_t3_succ (F := Ideal) 𝒱 c bd i arg1 harg1 arg2 harg2 arg3 harg3 arg4 harg4 arg5 harg5 arg6 harg6 arg7 harg7 arg8 harg8 arg9 harg9 arg10 harg10 v37 v55 (harg2.unread x1) (harg4.unread x3) G6 G10 k1_pay4 ⟨n, hk⟩
    rw [tripL_eq] at e; simp only at e
    unfold st3
    rw [e]
    simp only [List.singleton_append]
    rcases Nat.lt_or_ge r.val (128 * n) with hl | hl
    · rw [View.read_writes_cons_rows_of_not_mem (size := S128x256.size) (o := 128 * n) (W := 128) v f _ _ _ (ix2 r cc) (off5 ⟨n, hk⟩) rfl (Or.inl hl)]
      exact ih (by omega) hl
    · rw [View.read_writes_cons_rows_of_mem (size := S128x256.size) (o := 128 * n) v f _ _ _ (ix2 r cc) (ix2 (⟨r.val - 128 * n, by omega⟩ : Fin 128) cc : S128x256.Idx) (off5 ⟨n, hk⟩)
        (by show r.val = 128 * n + (r.val - 128 * n); omega) rfl]
      have er : (⟨256 * n + (r.val - 128 * n) * 2, by omega⟩ : Fin 1536) = ⟨r.val * 2, by omega⟩ := Fin.ext (by show 256 * n + (r.val - 128 * n) * 2 = r.val * 2; omega)
      have er' : (⟨256 * n + ((r.val - 128 * n) * 2 + 1), by omega⟩ : Fin 1536) = ⟨r.val * 2 + 1, by omega⟩ := Fin.ext (by show 256 * n + ((r.val - 128 * n) * 2 + 1) = r.val * 2 + 1; omega)
      have h4 := read4 arg4 harg4 x3 n hk (by omega) ⟨(r.val - 128 * n) * 2, by omega⟩ cc
      have h4' := read4 arg4 harg4 x3 n hk (by omega) ⟨(r.val - 128 * n) * 2 + 1, by omega⟩ cc
      simp only [er] at h4
      simp only [er'] at h4'
      rw [pay5p, pay13i, pay13i, pay3v, h4, h4']
      rfl

/-! The blocks. -/

variable (x0 : Vec Ideal S1536x9216 .fp8e4m3) (x4 : Vec Ideal S1x256 .f32)

/-- The block of the second quantised activation. -/
theorem out7 (hx : Fine x2) (r : Fin 9216) (cc : Fin 256) :
    out1_A_7 c i arg1 harg1 arg2 harg2 arg3 harg3 arg4 harg4 arg5 harg5 arg6 harg6 arg7 harg7 arg8 harg8 arg9 harg9 arg10 harg10 x0 x1 x2 x3 x4 (ix2 r cc) = QY (fun r c => x2 (ix2 r c)) r cc :=
  (congrFun rfl _).trans (quant Variants.none c none i arg1 harg1 arg2 harg2 arg3 harg3 arg4 harg4 arg5 harg5 arg6 harg6 arg7 harg7 arg8 harg8 arg9 harg9 arg10 harg10 hx 18 le_rfl VO1_7 VO1_7.junk r cc (by omega))

/-- The block of its scales. -/
theorem out8 (hx : Fine x2) (cc : Fin 256) :
    out1_A_8 c i arg1 harg1 arg2 harg2 arg3 harg3 arg4 harg4 arg5 harg5 arg6 harg6 arg7 harg7 arg8 harg8 arg9 harg9 arg10 harg10 x0 x1 x2 x3 x4 (ix2 0 cc) = SY (fun r c => x2 (ix2 r c)) cc := by
  refine Eq.trans ?_ (scale Variants.none c none i arg1 harg1 arg2 harg2 arg3 harg3 arg4 harg4 arg5 harg5 arg6 harg6 arg7 harg7 arg8 harg8 arg9 harg9 arg10 harg10 hx cc)
  unfold out1_A_8 kernelRun1_A
  exact View.read_writes_cons_rows_of_mem (o := 0) VO1_8 VO1_8.junk _ _ _ (ix2 0 cc) (ix2 0 cc) rfl rfl rfl

/-- The product the second call starts its third loop from. -/
theorem product (hx : Fine x2) (v : View sig .tc .vmem S1536x256 .f32) (f : v.ty.Contents (Elt Ideal)) (r : Fin 1536) (cc : Fin 256) :
    v.read (Elt Ideal) (v.writes (Elt Ideal) f (kernelRun1_A.sl.H5_1 c i arg1 harg1 arg2 harg2 arg3 harg3 arg4 harg4 arg5 harg5 arg6 harg6 arg7 harg7 arg8 harg8 arg9 harg9 arg10 harg10 x0 x2)) (ix2 r cc)
      = ∑ k, x0 (ix2 r k) * QY (fun r c => x2 (ix2 r c)) k cc := by
  unfold kernelRun1_A.sl.H5_1
  rw [View.read_writes_cons_rows_of_mem (size := ![1536, 256]) (o := 0) v f _ _ _ (ix2 r cc) (ix2 r cc : S1536x256.Idx) rfl (by show r.val = 0 + r.val; omega) rfl]
  rw [pay2m]
  refine Finset.sum_congr rfl fun k _ => ?_
  rw [readAt_rows (size := ![1536, 9216]) (o := 0) _ _ _ rfl (ix2 r k : S1536x9216.Idx) (ix2 r k : S1536x9216.Idx) (by show r.val = 0 + r.val; omega) rfl, harg1.read_unread]
  unfold View.readCov
  rw [readAt_rows (size := ![9216, 256]) (o := 0) _ _ _ rfl (ix2 k cc : S9216x256.Idx) (ix2 k cc : S9216x256.Idx) (by show k.val = 0 + k.val; omega) rfl]
  exact congrArg _ (quant Variants.none c none i arg1 harg1 arg2 harg2 arg3 harg3 arg4 harg4 arg5 harg5 arg6 harg6 arg7 harg7 arg8 harg8 arg9 harg9 arg10 harg10 hx 18 le_rfl arg8.view arg8.view.junk k cc (by omega))

/-- The block of column scales as loaded. -/
theorem read5 (cc : Fin 256) :
    arg5.view.readAt (Elt Ideal) (Rect.unit (s := S1x256) ![0, 0] S1x256.size inb_S1x256_S1x256_0_0).toLoadRect (harg5.unread x4) (ix2 0 cc : S1x256.Idx) = x4 (ix2 0 cc) := by
  rw [readAt_rows (size := S1x256.size) (o := 0) _ _ _ rfl (ix2 0 cc : S1x256.Idx) (ix2 0 cc : S1x256.Idx) rfl rfl, harg5.read_unread]

/-- The block of the gradient. -/
theorem out5 (hx : Fine x2) (r : Fin 1536) (cc : Fin 256) :
    out1_A_5 c i arg1 harg1 arg2 harg2 arg3 harg3 arg4 harg4 arg5 harg5 arg6 harg6 arg7 harg7 arg8 harg8 arg9 harg9 arg10 harg10 x0 x1 x2 x3 x4 (ix2 r cc)
      = pass (Ideal.div (x3 (ix2 r cc)) (x4 (ix2 0 cc)))
          ((∑ k, x0 (ix2 r k) * QY (fun r c => x2 (ix2 r c)) k cc) * x1 (ix2 r 0) * SY (fun r c => x2 (ix2 r c)) cc) := by
  rw [← read5 arg5 harg5 x4 cc, ← scale Variants.none c none i arg1 harg1 arg2 harg2 arg3 harg3 arg4 harg4 arg5 harg5 arg6 harg6 arg7 harg7 arg8 harg8 arg9 harg9 arg10 harg10 hx cc, ← product c i arg1 harg1 arg2 harg2 arg3 harg3 arg4 harg4 arg5 harg5 arg6 harg6 arg7 harg7 arg8 harg8 arg9 harg9 arg10 harg10 x0 hx arg6.view arg6.view.junk r cc]
  refine Eq.trans ?_ (done Variants.none c none i arg1 harg1 arg2 harg2 arg3 harg3 arg4 harg4 arg5 harg5 arg6 harg6 arg7 harg7 arg8 harg8 arg9 harg9 arg10 harg10 _ _ x1 x3 _ arg10.view.junk 6 le_rfl VO1_5 (VO1_5.writes (Elt Ideal) VO1_5.junk (kernelRun1_A.sl.H5_1 c i arg1 harg1 arg2 harg2 arg3 harg3 arg4 harg4 arg5 harg5 arg6 harg6 arg7 harg7 arg8 harg8 arg9 harg9 arg10 harg10 x0 x2)) r cc (by omega))
  rw [← View.writes_append]
  rfl

/-- The block of the scales' gradient. -/
theorem out6 (hx : Fine x2) (cc : Fin 256) :
    out1_A_6 c i arg1 harg1 arg2 harg2 arg3 harg3 arg4 harg4 arg5 harg5 arg6 harg6 arg7 harg7 arg8 harg8 arg9 harg9 arg10 harg10 x0 x1 x2 x3 x4 (ix2 0 cc)
      = Ideal.ofBits .f32 1008599475#32 * ∑ r, Spec.slope (Ideal.div (x3 (ix2 r cc)) (x4 (ix2 0 cc)))
          * ((∑ k, x0 (ix2 r k) * QY (fun r c => x2 (ix2 r c)) k cc) * x1 (ix2 r 0) * SY (fun r c => x2 (ix2 r c)) cc) := by
  simp only [← read5 arg5 harg5 x4 cc, ← scale Variants.none c none i arg1 harg1 arg2 harg2 arg3 harg3 arg4 harg4 arg5 harg5 arg6 harg6 arg7 harg7 arg8 harg8 arg9 harg9 arg10 harg10 hx cc, ← product c i arg1 harg1 arg2 harg2 arg3 harg3 arg4 harg4 arg5 harg5 arg6 harg6 arg7 harg7 arg8 harg8 arg9 harg9 arg10 harg10 x0 hx arg6.view arg6.view.junk _ cc]
  rw [← strided (fun r => _) (fun r => _)]
  simp only [← sums Variants.none c none i arg1 harg1 arg2 harg2 arg3 harg3 arg4 harg4 arg5 harg5 arg6 harg6 arg7 harg7 arg8 harg8 arg9 harg9 arg10 harg10 _ _ x1 x3 _ arg10.view.junk 6 le_rfl]
  rw [← pay7s]
  unfold out1_A_6 kernelRun1_A
  exact View.read_writes_cons_rows_of_mem (o := 0) VO1_6 VO1_6.junk _ _ _ (ix2 0 cc) (ix2 0 cc) rfl rfl rfl

/-- The block of the packed weights. -/
theorem out9 (r : Fin 768) (cc : Fin 256) :
    out1_A_9 c i arg1 harg1 arg2 harg2 arg3 harg3 arg4 harg4 arg5 harg5 arg6 harg6 arg7 harg7 arg8 harg8 arg9 harg9 arg10 harg10 x0 x1 x2 x3 x4 (ix2 r cc)
      = pack (Ideal.div (x3 (ix2 ⟨r.val * 2, by omega⟩ cc)) (x4 (ix2 0 cc))) (Ideal.div (x3 (ix2 ⟨r.val * 2 + 1, by omega⟩ cc)) (x4 (ix2 0 cc))) := by
  rw [← read5 arg5 harg5 x4 cc]
  refine Eq.trans ?_ (packed Variants.none c none i arg1 harg1 arg2 harg2 arg3 harg3 arg4 harg4 arg5 harg5 arg6 harg6 arg7 harg7 arg8 harg8 arg9 harg9 arg10 harg10 (kernelRun1_A.sl.r c i arg1 harg1 arg2 harg2 arg3 harg3 arg4 harg4 arg5 harg5 arg6 harg6 arg7 harg7 arg8 harg8 arg9 harg9 arg10 harg10 x2) _ x1 x3 (arg6.view.writes (Elt Ideal) arg6.view.junk (kernelRun1_A.sl.H5_1 c i arg1 harg1 arg2 harg2 arg3 harg3 arg4 harg4 arg5 harg5 arg6 harg6 arg7 harg7 arg8 harg8 arg9 harg9 arg10 harg10 x0 x2)) arg10.view.junk 6 le_rfl VO1_9 VO1_9.junk r cc (by omega))
  rfl

end Cert.Region1
end
-- ==== Proof.KernelArrays.lean ====
module

public import proofs.«01_k».proof.Proof.Region1
public import Idealize.ShloMosaic.Lib.Pipeline.ValueKit
@[expose] public section
set_option maxRecDepth 16384

/-! The arrays the two calls leave, entry by entry, in terms of the arrays they find. -/

namespace Cert.KernelArrays
open Idealize.ShloMosaic Idealize.ShloMosaic.TcCoe Cert.KernelIdeal Cert.KernelIdeal.Gen Cert.KernelIdeal.Run Cert.Spec
open Idealize.SL Idealize.SL.Sem

variable (V : (c : Dev nD) → (b : Ref sig .tc) → Buf (Elt Ideal) ((c : Thread nD τ).loc b)) (c : Dev nD)

/-- Where the first call's tiles lie. -/
theorem at0_0 : ∀ t : Fin cfg0.N, win0_0.index t = ![0, t.val] := (by decide +kernel : ∀ t : Fin grid0.N, _)
/-- Step `t` of the first call writes column block `t` of its codes. -/
theorem at0_1 : ∀ t : Fin cfg0.N, win0_1.index t = ![0, t.val] := (by decide +kernel : ∀ t : Fin grid0.N, _)
/-- Step `t` of the first call writes column block `t` of its scales. -/
theorem at0_2 : ∀ t : Fin cfg0.N, win0_2.index t = ![0, t.val] := (by decide +kernel : ∀ t : Fin grid0.N, _)
/-- Step `t` of the first call writes row block `t` of its transposed codes. -/
theorem at0_3 : ∀ t : Fin cfg0.N, win0_3.index t = ![t.val, 0] := (by decide +kernel : ∀ t : Fin grid0.N, _)

/-- The first activation as the first call finds it. -/
abbrev X0 (r : Fin 9216) (j : Fin 1536) : EReal := (V c main_v0 : Vec Ideal S9216x1536 .bf16) (ix2 r j)

/-- A column of block `t` of the first call is a column of the array. -/
theorem lt0 (t : Fin cfg0.N) (j : Fin 256) : 256 * t.val + j.val < 1536 := by
  have h : t.val < 6 := by have := t.isLt; have e : cfg0.N = 6 := N_0; omega
  omega

/-- The tile of the first activation at a point. -/
theorem iblk0_at (t : Fin cfg0.N) (r : Fin 9216) (j : Fin 256) :
    (iblk0 V c 0 t : Vec Ideal S9216x256 .bf16) (ix2 r j) = X0 V c r ⟨256 * t.val + j.val, lt0 t j⟩ := by
  blk_simp [iblk0]
  show V c main_v0 _ = V c main_v0 _
  congr 1
  blk_ext [at0_0]

variable {V} {c}

/-- A tile of an array within the bound is within the bound. -/
theorem fine0 (h : ∀ r j, max (X0 V c r j) (-(X0 V c r j)) ≤ Ideal.ofBits .bf16 0x7F7F#16) (t : Fin cfg0.N) :
    Region0.Fine (iblk0 V c 0 t) := by
  intro r j
  rw [iblk0_at]; exact h _ _

/-- The first call's input block is the input array at that block's columns. -/
theorem cols0 (t : Fin cfg0.N) : (fun r j => (iblk0 V c 0 t : Vec Ideal S9216x256 .bf16) (ix2 r j))
    = fun r (j : Fin 256) => X0 V c r ⟨256 * t.val + j.val, lt0 t j⟩ := by
  funext r j; exact iblk0_at V c t r j

/-- The low-precision first activation. -/
theorem xq (h : ∀ r j, max (X0 V c r j) (-(X0 V c r j)) ≤ Ideal.ofBits .bf16 0x7F7F#16) :
    (dat0 V c).arrAt 1 cfg0.N = (fun i => QX (X0 V c) (i 0) (i 1) : Vec Ideal S9216x1536 .fp8e4m3) := by
  refine (dat0 V c).arrAt_eq_of_covers 1 _ (by decide +kernel) fun t hf y => ?_
  blk_simp
  rw [after0_1]
  obtain ⟨r, j, rfl⟩ : ∃ (r : Fin 9216) (j : Fin 256), y = ix2 r j := ⟨y 0, y 1, by funext a; fin_cases a <;> rfl⟩
  refine (Region0.out1 c (grid0.coords t) _ _ _ _ _ _ _ _ (fine0 h t) r j).trans ?_
  rw [cols0]
  have e : (win0_1.blk t).view.emb (ix2 r j) = (ix2 r (⟨256 * t.val + j.val, lt0 t j⟩ : Fin 1536) : S9216x1536.Idx) := by
    blk_ext [at0_1]
  rw [e]
  rfl

/-- The scales of the first activation. -/
theorem sx (h : ∀ r j, max (X0 V c r j) (-(X0 V c r j)) ≤ Ideal.ofBits .bf16 0x7F7F#16) :
    (dat0 V c).arrAt 2 cfg0.N = (fun i => SX (X0 V c) (i 1) : Vec Ideal S1x1536 .f32) := by
  refine (dat0 V c).arrAt_eq_of_covers 2 _ (by decide +kernel) fun t hf y => ?_
  blk_simp
  rw [after0_2]
  obtain ⟨r, j, rfl⟩ : ∃ (r : Fin 1) (j : Fin 256), y = ix2 r j := ⟨y 0, y 1, by funext a; fin_cases a <;> rfl⟩
  obtain rfl : r = 0 := Subsingleton.elim _ _
  refine (Region0.out2 c (grid0.coords t) _ _ _ _ _ _ _ _ (fine0 h t) j).trans ?_
  rw [cols0]
  have e : (win0_2.blk t).view.emb (ix2 0 j) = (ix2 0 (⟨256 * t.val + j.val, lt0 t j⟩ : Fin 1536) : S1x1536.Idx) := by
    blk_ext [at0_2]
  rw [e]
  rfl

/-- The low-precision first activation, transposed. -/
theorem xqt (h : ∀ r j, max (X0 V c r j) (-(X0 V c r j)) ≤ Ideal.ofBits .bf16 0x7F7F#16) :
    (dat0 V c).arrAt 3 cfg0.N = (fun i => QX (X0 V c) (i 1) (i 0) : Vec Ideal S1536x9216 .fp8e4m3) := by
  refine (dat0 V c).arrAt_eq_of_covers 3 _ (by decide +kernel) fun t hf y => ?_
  blk_simp
  rw [after0_3]
  obtain ⟨j, r, rfl⟩ : ∃ (j : Fin 256) (r : Fin 9216), y = ix2 j r := ⟨y 0, y 1, by funext a; fin_cases a <;> rfl⟩
  refine (Region0.out3 c (grid0.coords t) _ _ _ _ _ _ _ _ (fine0 h t) r j).trans ?_
  rw [cols0]
  have e : (win0_3.blk t).view.emb (ix2 j r) = (ix2 (⟨256 * t.val + j.val, lt0 t j⟩ : Fin 1536) r : S1536x9216.Idx) := by
    blk_ext [at0_3]
  rw [e]
  rfl

/-- Where the second call's tiles lie. -/
theorem at1_0 : ∀ t : Fin cfg1.N, win1_0.index t = ![0, 0] := (by decide +kernel : ∀ t : Fin grid1.N, _)
/-- Every step of the second call reads all of the scales of the first activation. -/
theorem at1_1 : ∀ t : Fin cfg1.N, win1_1.index t = ![0, 0] := (by decide +kernel : ∀ t : Fin grid1.N, _)
/-- Step `t` of the second call reads column block `t` of the second activation. -/
theorem at1_2 : ∀ t : Fin cfg1.N, win1_2.index t = ![0, t.val] := (by decide +kernel : ∀ t : Fin grid1.N, _)
/-- Step `t` of the second call reads column block `t` of the weights. -/
theorem at1_3 : ∀ t : Fin cfg1.N, win1_3.index t = ![0, t.val] := (by decide +kernel : ∀ t : Fin grid1.N, _)
/-- Step `t` of the second call reads column block `t` of the weight steps. -/
theorem at1_4 : ∀ t : Fin cfg1.N, win1_4.index t = ![0, t.val] := (by decide +kernel : ∀ t : Fin grid1.N, _)
/-- Step `t` of the second call writes column block `t` of the gradient of the weights. -/
theorem at1_5 : ∀ t : Fin cfg1.N, win1_5.index t = ![0, t.val] := (by decide +kernel : ∀ t : Fin grid1.N, _)
/-- Step `t` of the second call writes column block `t` of the gradient of the steps. -/
theorem at1_6 : ∀ t : Fin cfg1.N, win1_6.index t = ![0, t.val] := (by decide +kernel : ∀ t : Fin grid1.N, _)
/-- Step `t` of the second call writes column block `t` of the codes of the second activation. -/
theorem at1_7 : ∀ t : Fin cfg1.N, win1_7.index t = ![0, t.val] := (by decide +kernel : ∀ t : Fin grid1.N, _)
/-- Step `t` of the second call writes column block `t` of the scales of the second activation. -/
theorem at1_8 : ∀ t : Fin cfg1.N, win1_8.index t = ![0, t.val] := (by decide +kernel : ∀ t : Fin grid1.N, _)
/-- Step `t` of the second call writes column block `t` of the packed weights. -/
theorem at1_9 : ∀ t : Fin cfg1.N, win1_9.index t = ![0, t.val] := (by decide +kernel : ∀ t : Fin grid1.N, _)

/-- The low-precision first activation as the second call finds it. -/
abbrev Q1 (V : (c : Dev nD) → (b : Ref sig .tc) → Buf (Elt Ideal) ((c : Thread nD τ).loc b)) (c : Dev nD) (i : Fin 1536) (k : Fin 9216) : EReal := (V c main_v2_2 : Vec Ideal S1536x9216 .fp8e4m3) (ix2 i k)
/-- The first activation's scales as the second call finds them. -/
abbrev Z1 (V : (c : Dev nD) → (b : Ref sig .tc) → Buf (Elt Ideal) ((c : Thread nD τ).loc b)) (c : Dev nD) (i : Fin 1536) (k : Fin 128) : EReal := (V c main_v4 : Vec Ideal S1536x128 .f32) (ix2 i k)
/-- The second activation as the second call finds it. -/
abbrev D1 (V : (c : Dev nD) → (b : Ref sig .tc) → Buf (Elt Ideal) ((c : Thread nD τ).loc b)) (c : Dev nD) (r : Fin 9216) (j : Fin 8960) : EReal := (V c main_v1 : Vec Ideal S9216x8960 .bf16) (ix2 r j)
/-- The weights as the second call finds them. -/
abbrev W1 (V : (c : Dev nD) → (b : Ref sig .tc) → Buf (Elt Ideal) ((c : Thread nD τ).loc b)) (c : Dev nD) (i : Fin 1536) (j : Fin 8960) : EReal := (V c main_arg2 : Vec Ideal S1536x8960 .f32) (ix2 i j)
/-- The weights' scales as the second call finds them. -/
abbrev S1 (V : (c : Dev nD) → (b : Ref sig .tc) → Buf (Elt Ideal) ((c : Thread nD τ).loc b)) (c : Dev nD) (j : Fin 8960) : EReal := (V c main_v5 : Vec Ideal S1x8960 .f32) (ix2 0 j)

/-- A column of block `t` of the second call is a column of the array. -/
theorem lt1 (t : Fin cfg1.N) (j : Fin 256) : 256 * t.val + j.val < 8960 := by
  have h : t.val < 35 := by have := t.isLt; have e : cfg1.N = 35 := N_1; omega
  omega

/-- The first of the two rows packed into a row. -/
abbrev even (r : Fin 768) : Fin 1536 := ⟨r.val * 2, by omega⟩
/-- The second of the two rows packed into a row. -/
abbrev odd (r : Fin 768) : Fin 1536 := ⟨r.val * 2 + 1, by omega⟩

/-- A column of a tile, among all columns. -/
abbrev col (t : Fin cfg1.N) (j : Fin 256) : Fin 8960 := ⟨256 * t.val + j.val, lt1 t j⟩

/-- The block of transposed codes is the whole array. -/
theorem iblk1_0 (t : Fin cfg1.N) (i : Fin 1536) (k : Fin 9216) :
    (iblk1 V c 0 t : Vec Ideal S1536x9216 .fp8e4m3) (ix2 i k) = Q1 V c i k := by
  blk_simp [iblk1]
  show V c main_v2_2 _ = V c main_v2_2 _
  congr 1
  blk_ext [at1_0]

/-- The block of broadcast scales is the whole array. -/
theorem iblk1_1 (t : Fin cfg1.N) (i : Fin 1536) (k : Fin 128) :
    (iblk1 V c 1 t : Vec Ideal S1536x128 .f32) (ix2 i k) = Z1 V c i k := by
  blk_simp [iblk1]
  show V c main_v4 _ = V c main_v4 _
  congr 1
  blk_ext [at1_1]

/-- An entry of the second activation's block, as an entry of the array. -/
theorem iblk1_2 (t : Fin cfg1.N) (r : Fin 9216) (j : Fin 256) :
    (iblk1 V c 2 t : Vec Ideal S9216x256 .bf16) (ix2 r j) = D1 V c r (col t j) := by
  blk_simp [iblk1]
  show V c main_v1 _ = V c main_v1 _
  congr 1
  blk_ext [at1_2]

/-- An entry of the weights' block, as an entry of the array. -/
theorem iblk1_3 (t : Fin cfg1.N) (i : Fin 1536) (j : Fin 256) :
    (iblk1 V c 3 t : Vec Ideal S1536x256 .f32) (ix2 i j) = W1 V c i (col t j) := by
  blk_simp [iblk1]
  show V c main_arg2 _ = V c main_arg2 _
  congr 1
  blk_ext [at1_3]

/-- An entry of the weight steps' block, as an entry of the array. -/
theorem iblk1_4 (t : Fin cfg1.N) (j : Fin 256) :
    (iblk1 V c 4 t : Vec Ideal S1x256 .f32) (ix2 0 j) = S1 V c (col t j) := by
  blk_simp [iblk1]
  show V c main_v5 _ = V c main_v5 _
  congr 1
  blk_ext [at1_4]

/-- A tile of an array within the bound is within the bound. -/
theorem fine1 (h : ∀ r j, max (D1 V c r j) (-(D1 V c r j)) ≤ Ideal.ofBits .bf16 0x7F7F#16) (t : Fin cfg1.N) :
    Region1.Fine (iblk1 V c 2 t) := by
  intro r j
  rw [iblk1_2]; exact h _ _

/-- The second activation's block is the array at that block's columns. -/
theorem cols1 (t : Fin cfg1.N) : (fun r j => (iblk1 V c 2 t : Vec Ideal S9216x256 .bf16) (ix2 r j))
    = fun r (j : Fin 256) => D1 V c r (col t j) := by
  funext r j; exact iblk1_2 t r j

/-- The product of the low-precision activations, scaled back. -/
noncomputable abbrev DQ1 (V : (c : Dev nD) → (b : Ref sig .tc) → Buf (Elt Ideal) ((c : Thread nD τ).loc b)) (c : Dev nD) (i : Fin 1536) (j : Fin 8960) : EReal :=
  (∑ k, Q1 V c i k * QY (D1 V c) k j) * Z1 V c i 0 * SY (D1 V c) j

/-- The gradient of the weights. -/
theorem dw (h : ∀ r j, max (D1 V c r j) (-(D1 V c r j)) ≤ Ideal.ofBits .bf16 0x7F7F#16) :
    (dat1 V c).arrAt 5 cfg1.N = (fun i => pass (Ideal.div (W1 V c (i 0) (i 1)) (S1 V c (i 1))) (DQ1 V c (i 0) (i 1)) : Vec Ideal S1536x8960 .f32) := by
  refine (dat1 V c).arrAt_eq_of_covers 5 _ (by decide +kernel) fun t hf y => ?_
  blk_simp
  rw [after1_5]
  obtain ⟨r, j, rfl⟩ : ∃ (r : Fin 1536) (j : Fin 256), y = ix2 r j := ⟨y 0, y 1, by funext a; fin_cases a <;> rfl⟩
  have e : (win1_5.blk t).view.emb (ix2 r j) = (ix2 r (col t j) : S1536x8960.Idx) := by
    blk_ext [at1_5]
  rw [e]
  refine (Region1.out5 c (grid1.coords t) _ _ _ _ _ _ _ _ _ _ _ _ _ _ _ _ _ _ _ _ (iblk1 V c 1 t) (iblk1 V c 3 t) (iblk1 V c 0 t) (iblk1 V c 4 t) (fine1 h t) r j).trans ?_
  rw [cols1, iblk1_3, iblk1_4, iblk1_1]
  simp only [iblk1_0]
  rfl

/-- The gradient of the weights' scales. -/
theorem ds (h : ∀ r j, max (D1 V c r j) (-(D1 V c r j)) ≤ Ideal.ofBits .bf16 0x7F7F#16) :
    (dat1 V c).arrAt 6 cfg1.N = (fun i => Ideal.ofBits .f32 1008599475#32 * ∑ r, Spec.slope (Ideal.div (W1 V c r (i 1)) (S1 V c (i 1))) * DQ1 V c r (i 1) : Vec Ideal S1x8960 .f32) := by
  refine (dat1 V c).arrAt_eq_of_covers 6 _ (by decide +kernel) fun t hf y => ?_
  blk_simp
  rw [after1_6]
  obtain ⟨r, j, rfl⟩ : ∃ (r : Fin 1) (j : Fin 256), y = ix2 r j := ⟨y 0, y 1, by funext a; fin_cases a <;> rfl⟩
  obtain rfl : r = 0 := Subsingleton.elim _ _
  have e : (win1_6.blk t).view.emb (ix2 0 j) = (ix2 0 (col t j) : S1x8960.Idx) := by
    blk_ext [at1_6]
  rw [e]
  refine (Region1.out6 c (grid1.coords t) _ _ _ _ _ _ _ _ _ _ _ _ _ _ _ _ _ _ _ _ (iblk1 V c 1 t) (iblk1 V c 3 t) (iblk1 V c 0 t) (iblk1 V c 4 t) (fine1 h t) j).trans ?_
  rw [cols1]
  simp only [iblk1_0, iblk1_1, iblk1_3, iblk1_4]
  rfl

/-- The low-precision second activation. -/
theorem dyq (h : ∀ r j, max (D1 V c r j) (-(D1 V c r j)) ≤ Ideal.ofBits .bf16 0x7F7F#16) :
    (dat1 V c).arrAt 7 cfg1.N = (fun i => QY (D1 V c) (i 0) (i 1) : Vec Ideal S9216x8960 .fp8e5m2) := by
  refine (dat1 V c).arrAt_eq_of_covers 7 _ (by decide +kernel) fun t hf y => ?_
  blk_simp
  rw [after1_7]
  obtain ⟨r, j, rfl⟩ : ∃ (r : Fin 9216) (j : Fin 256), y = ix2 r j := ⟨y 0, y 1, by funext a; fin_cases a <;> rfl⟩
  have e : (win1_7.blk t).view.emb (ix2 r j) = (ix2 r (col t j) : S9216x8960.Idx) := by
    blk_ext [at1_7]
  rw [e]
  refine (Region1.out7 c (grid1.coords t) _ _ _ _ _ _ _ _ _ _ _ _ _ _ _ _ _ _ _ _ (iblk1 V c 1 t) (iblk1 V c 3 t) (iblk1 V c 0 t) (iblk1 V c 4 t) (fine1 h t) r j).trans ?_
  rw [cols1]
  rfl

/-- The scales of the second activation. -/
theorem sy (h : ∀ r j, max (D1 V c r j) (-(D1 V c r j)) ≤ Ideal.ofBits .bf16 0x7F7F#16) :
    (dat1 V c).arrAt 8 cfg1.N = (fun i => SY (D1 V c) (i 1) : Vec Ideal S1x8960 .f32) := by
  refine (dat1 V c).arrAt_eq_of_covers 8 _ (by decide +kernel) fun t hf y => ?_
  blk_simp
  rw [after1_8]
  obtain ⟨r, j, rfl⟩ : ∃ (r : Fin 1) (j : Fin 256), y = ix2 r j := ⟨y 0, y 1, by funext a; fin_cases a <;> rfl⟩
  obtain rfl : r = 0 := Subsingleton.elim _ _
  have e : (win1_8.blk t).view.emb (ix2 0 j) = (ix2 0 (col t j) : S1x8960.Idx) := by
    blk_ext [at1_8]
  rw [e]
  refine (Region1.out8 c (grid1.coords t) _ _ _ _ _ _ _ _ _ _ _ _ _ _ _ _ _ _ _ _ (iblk1 V c 1 t) (iblk1 V c 3 t) (iblk1 V c 0 t) (iblk1 V c 4 t) (fine1 h t) j).trans ?_
  rw [cols1]
  rfl

/-- The packed weights. -/
theorem qp :
    (dat1 V c).arrAt 9 cfg1.N = (fun i => pack (Ideal.div (W1 V c (even (i 0)) (i 1)) (S1 V c (i 1))) (Ideal.div (W1 V c (odd (i 0)) (i 1)) (S1 V c (i 1))) : Vec Ideal S768x8960 .i8) := by
  refine (dat1 V c).arrAt_eq_of_covers 9 _ (by decide +kernel) fun t hf y => ?_
  blk_simp
  rw [after1_9]
  obtain ⟨r, j, rfl⟩ : ∃ (r : Fin 768) (j : Fin 256), y = ix2 r j := ⟨y 0, y 1, by funext a; fin_cases a <;> rfl⟩
  have e : (win1_9.blk t).view.emb (ix2 r j) = (ix2 r (col t j) : S768x8960.Idx) := by
    blk_ext [at1_9]
  rw [e]
  refine (Region1.out9 c (grid1.coords t) _ _ _ _ _ _ _ _ _ _ _ _ _ _ _ _ _ _ _ _ (iblk1 V c 1 t) (iblk1 V c 3 t) (iblk1 V c 0 t) (iblk1 V c 4 t) r j).trans ?_
  rw [iblk1_3, iblk1_3, iblk1_4]
  rfl

end Cert.KernelArrays
end
-- ==== Proof.Values.lean ====
module

public import proofs.«01_k».proof.Proof.Spec
public import Idealize.ShloMosaic.Lib.Pointwise
@[expose] public section
set_option maxRecDepth 16384

/-! The seven results as arrays, as functions of the four argument arrays. -/

namespace Cert.Values
open Idealize.ShloMosaic Cert.Spec

noncomputable section

variable (x : Vec Ideal ⟨3, ![24, 384, 1536]⟩ .bf16) (dy : Vec Ideal ⟨3, ![24, 384, 8960]⟩ .bf16)
  (w : Vec Ideal ⟨2, ![1536, 8960]⟩ .f32) (s : Vec Ideal ⟨1, ![8960]⟩ .f32)

/-- The first activation has the entries of its matrix. -/
theorem castX : (⟨3, ![24, 384, 1536]⟩ : Shape).ShapeCasts ⟨2, ![9216, 1536]⟩ := by decide
/-- The matrix has the entries of the first activation. -/
theorem castX' : (⟨2, ![9216, 1536]⟩ : Shape).ShapeCasts ⟨3, ![24, 384, 1536]⟩ := by decide
/-- The second activation has the entries of its matrix. -/
theorem castD : (⟨3, ![24, 384, 8960]⟩ : Shape).ShapeCasts ⟨2, ![9216, 8960]⟩ := by decide
/-- The matrix has the entries of the second activation. -/
theorem castD' : (⟨2, ![9216, 8960]⟩ : Shape).ShapeCasts ⟨3, ![24, 384, 8960]⟩ := by decide
/-- The steps have the entries of a single row. -/
theorem castS : (⟨1, ![8960]⟩ : Shape).ShapeCasts ⟨2, ![1, 8960]⟩ := by decide
/-- The single row has the entries of the steps. -/
theorem castS' : (⟨2, ![1, 8960]⟩ : Shape).ShapeCasts ⟨1, ![8960]⟩ := by decide
/-- A single row of scales has the entries of a vector. -/
theorem castZ' : (⟨2, ![1, 1536]⟩ : Shape).ShapeCasts ⟨1, ![1536]⟩ := by decide

/-- The first activation, its rows in one list. -/
def X (r : Fin 9216) (j : Fin 1536) : EReal := shapeCast ⟨2, ![9216, 1536]⟩ x castX (ix2 r j)
/-- The second activation, its rows in one list. -/
def D (r : Fin 9216) (j : Fin 8960) : EReal := shapeCast ⟨2, ![9216, 8960]⟩ dy castD (ix2 r j)
/-- The weights. -/
def W (i : Fin 1536) (j : Fin 8960) : EReal := w (ix2 i j)
/-- The weights' scales. -/
def S (j : Fin 8960) : EReal := shapeCast ⟨2, ![1, 8960]⟩ s castS (ix2 0 j)

/-- The first of the two rows packed into a row. -/
def even (r : Fin 768) : Fin 1536 := ⟨r.val * 2, by omega⟩
/-- The second of the two rows packed into a row. -/
def odd (r : Fin 768) : Fin 1536 := ⟨r.val * 2 + 1, by omega⟩

/-- The gradient of the weights. -/
def dw : Vec Ideal ⟨2, ![1536, 8960]⟩ .f32 := fun i =>
  pass (Ideal.div (W w (i 0) (i 1)) (S s (i 1))) (DQ (X x) (D dy) (i 0) (i 1))
/-- The gradient of the weights' scales. -/
def ds : Vec Ideal ⟨1, ![8960]⟩ .f32 :=
  shapeCast ⟨1, ![8960]⟩ (fun i => DS (X x) (D dy) (W w) (S s) (i 1) : Vec Ideal ⟨2, ![1, 8960]⟩ .f32) castS'
/-- The low-precision first activation. -/
def xq : Vec Ideal ⟨3, ![24, 384, 1536]⟩ .fp8e4m3 :=
  shapeCast ⟨3, ![24, 384, 1536]⟩ (fun i => QX (X x) (i 0) (i 1) : Vec Ideal ⟨2, ![9216, 1536]⟩ .fp8e4m3) castX'
/-- Its scales. -/
def sx : Vec Ideal ⟨1, ![1536]⟩ .f32 :=
  shapeCast ⟨1, ![1536]⟩ (fun i => SX (X x) (i 1) : Vec Ideal ⟨2, ![1, 1536]⟩ .f32) castZ'
/-- The low-precision second activation. -/
def dyq : Vec Ideal ⟨3, ![24, 384, 8960]⟩ .fp8e5m2 :=
  shapeCast ⟨3, ![24, 384, 8960]⟩ (fun i => QY (D dy) (i 0) (i 1) : Vec Ideal ⟨2, ![9216, 8960]⟩ .fp8e5m2) castD'
/-- Its scales. -/
def sy : Vec Ideal ⟨1, ![8960]⟩ .f32 :=
  shapeCast ⟨1, ![8960]⟩ (fun i => SY (D dy) (i 1) : Vec Ideal ⟨2, ![1, 8960]⟩ .f32) castS'
/-- The packed weights. -/
def qp : Vec Ideal ⟨2, ![768, 8960]⟩ .i8 := fun i =>
  pack (Ideal.div (W w (even (i 0)) (i 1)) (S s (i 1))) (Ideal.div (W w (odd (i 0)) (i 1)) (S s (i 1)))

end
end Cert.Values
end
-- ==== Proof.KernelEnds.lean ====
module

public import proofs.«01_k».proof.Proof.KernelArrays
public import proofs.«01_k».proof.Proof.Values
@[expose] public section
set_option maxRecDepth 16384

/-! What the program's result arrays hold at the end, in terms of its argument arrays. -/

namespace Cert.KernelEnds
open Idealize.ShloMosaic Idealize.ShloMosaic.TcCoe Cert.KernelIdeal Cert.KernelIdeal.Gen Cert.Spec
open Idealize.SL Idealize.SL.Sem

variable (m : (ℓ : Loc nD τ sig) → Buf (Elt Ideal) ℓ) (ρ : Dev nD → PrngReg) (c : Dev nD)

/-- The first activation. -/
abbrev inX : Vec Ideal S24x384x1536 .bf16 := m ((c : Thread nD τ).loc main_arg0)
/-- The second activation. -/
abbrev inD : Vec Ideal S24x384x8960 .bf16 := m ((c : Thread nD τ).loc main_arg1)
/-- The weights. -/
abbrev inW : Vec Ideal S1536x8960 .f32 := m ((c : Thread nD τ).loc main_arg2)
/-- The weights' scales. -/
abbrev inS : Vec Ideal S8960 .f32 := m ((c : Thread nD τ).loc main_arg3)

/-- After the first host operations the first activation is there as a matrix. -/
theorem v0 : Run.W1 m ρ c (Proc.devRef .tc main_v0) = shapeCast S9216x1536 (inX m c) Values.castX := by
  unfold Run.W1; after_results; rfl

/-- After the first host operations the second activation is there as a matrix. -/
theorem v1 : Run.W1 m ρ c (Proc.devRef .tc main_v1) = shapeCast S9216x8960 (inD m c) Values.castD := by
  unfold Run.W1; after_results; rfl

/-- The first call reads the first argument as a matrix. -/
theorem x0 : KernelArrays.X0 (Run.V1 m ρ) c = Values.X (inX m c) := by
  funext r j
  exact congrFun (v0 m ρ c) (ix2 r j)

/-- The bound on the first activation. -/
abbrev FineX : Prop := ∀ i, max (inX m c i) (-(inX m c i)) ≤ Ideal.ofBits .bf16 0x7F7F#16
/-- The bound on the second activation. -/
abbrev FineD : Prop := ∀ i, max (inD m c i) (-(inD m c i)) ≤ Ideal.ofBits .bf16 0x7F7F#16

variable {m} {c}

/-- What the first call reads is bounded by the largest finite bf16. -/
theorem bound0 (h : FineX m c) (r : Fin 9216) (j : Fin 1536) :
    max (KernelArrays.X0 (Run.V1 m ρ) c r j) (-(KernelArrays.X0 (Run.V1 m ρ) c r j)) ≤ Ideal.ofBits .bf16 0x7F7F#16 := by
  rw [x0]; exact h _

/-- The first call leaves the codes of the first activation. -/
theorem v2_0 (h : FineX m c) : Run.W2 m ρ c (Proc.devRef .tc main_v2_0) = (fun i => QX (Values.X (inX m c)) (i 0) (i 1) : Vec Ideal S9216x1536 .fp8e4m3) :=
  ((Run.W2_arr m ρ c 1).trans (KernelArrays.xq (bound0 ρ h))).trans (by rw [x0])

/-- The first call leaves the scales of the first activation. -/
theorem v2_1 (h : FineX m c) : Run.W2 m ρ c (Proc.devRef .tc main_v2_1) = (fun i => SX (Values.X (inX m c)) (i 1) : Vec Ideal S1x1536 .f32) :=
  ((Run.W2_arr m ρ c 2).trans (KernelArrays.sx (bound0 ρ h))).trans (by rw [x0])

/-- The first call leaves the codes of the first activation, transposed. -/
theorem v2_2 (h : FineX m c) : Run.W2 m ρ c (Proc.devRef .tc main_v2_2) = (fun i => QX (Values.X (inX m c)) (i 1) (i 0) : Vec Ideal S1536x9216 .fp8e4m3) :=
  ((Run.W2_arr m ρ c 3).trans (KernelArrays.xqt (bound0 ρ h))).trans (by rw [x0])

/-- The second call reads the transposed codes of the first activation. -/
theorem q1 (h : FineX m c) (i : Fin 1536) (k : Fin 9216) : KernelArrays.Q1 (Run.V3 m ρ) c i k = QX (Values.X (inX m c)) k i :=
  congrFun ((Run.W3_of m ρ c main_v2_2 (by decide)).trans (v2_2 ρ h)) (ix2 i k)

/-- The second call reads the second argument as a matrix. -/
theorem d1 : KernelArrays.D1 (Run.V3 m ρ) c = Values.D (inD m c) := by
  funext r j
  exact congrFun ((Run.W3_of m ρ c main_v1 (by decide)).trans ((Run.W2_of_ne m ρ c main_v1 (by decide)).trans (v1 m ρ c))) (ix2 r j)

/-- The second call reads the weights. -/
theorem w1 : KernelArrays.W1 (Run.V3 m ρ) c = Values.W (inW m c) := by
  funext r j
  exact congrFun (Run.W3_args m ρ c main_arg2 (by decide)) (ix2 r j)

/-- The second call reads the weight steps. -/
theorem s1 : KernelArrays.S1 (Run.V3 m ρ) c = Values.S (inS m c) := by
  funext j
  have e0 : Run.W2 m ρ c (Proc.devRef .tc main_arg3) = inS m c := Run.W2_args m ρ c main_arg3 (by decide)
  have e : Run.W3 m ρ c (Proc.devRef .tc main_v5)
      = shapeCast S1x8960 (Run.W2 m ρ c (Proc.devRef .tc main_arg3) : Vec Ideal S8960 .f32) Values.castS := by
    unfold Run.W3; after_results; rfl
  rw [e0] at e
  exact congrFun e (ix2 0 j)

/-- The second call reads the scales of the first activation, each along a row. -/
theorem z1 (h : FineX m c) (i : Fin 1536) (k : Fin 128) : KernelArrays.Z1 (Run.V3 m ρ) c i k = SX (Values.X (inX m c)) i := by
  have e : Run.W3 m ρ c (Proc.devRef .tc main_v4) = broadcastInDim S1536x128 ![0, 1] bcast_S1536x1_S1536x128_0_1
      (shapeCast S1536x1 (Run.W2 m ρ c (Proc.devRef .tc main_v2_1) : Vec Ideal S1x1536 .f32) shapeCasts_S1x1536_S1536x1) := by
    unfold Run.W3; after_results; rfl
  refine (congrFun e (ix2 i k)).trans ?_
  rw [v2_1 ρ h]
  pointwise []

/-- What the second call reads of the second activation is bounded by the largest finite bf16. -/
theorem bound1 (h : FineD m c) (r : Fin 9216) (j : Fin 8960) :
    max (KernelArrays.D1 (Run.V3 m ρ) c r j) (-(KernelArrays.D1 (Run.V3 m ρ) c r j)) ≤ Ideal.ofBits .bf16 0x7F7F#16 := by
  rw [d1]; exact h _

/-- The scaled product the second call forms is the one of the two arguments. -/
theorem dq1 (h : FineX m c) (i : Fin 1536) (j : Fin 8960) :
    KernelArrays.DQ1 (Run.V3 m ρ) c i j = DQ (Values.X (inX m c)) (Values.D (inD m c)) i j := by
  unfold KernelArrays.DQ1 DQ
  simp only [q1 ρ h, z1 ρ h, d1]

/-- The gradient of the weights. -/
theorem end_dw (h : FineX m c) (h' : FineD m c) : Run.W5 m ρ c (Proc.devRef .tc main_v6_0)
    = Values.dw (inX m c) (inD m c) (inW m c) (inS m c) := by
  rw [Run.W5_of m ρ c main_v6_0 (by decide)]
  refine ((Run.W4_arr m ρ c 5).trans (KernelArrays.dw (bound1 ρ h'))).trans ?_
  funext i
  obtain ⟨a, b, rfl⟩ : ∃ (a : Fin 1536) (b : Fin 8960), i = ix2 a b := ⟨i 0, i 1, by funext k; fin_cases k <;> rfl⟩
  show pass (Ideal.div (KernelArrays.W1 (Run.V3 m ρ) c a b) (KernelArrays.S1 (Run.V3 m ρ) c b)) (KernelArrays.DQ1 (Run.V3 m ρ) c a b) = _
  rw [dq1 ρ h, w1, s1]
  rfl

/-- The second call leaves the gradient of the weight steps. -/
theorem v6_1 (h : FineX m c) (h' : FineD m c) : Run.W4 m ρ c (Proc.devRef .tc main_v6_1)
    = (fun i => DS (Values.X (inX m c)) (Values.D (inD m c)) (Values.W (inW m c)) (Values.S (inS m c)) (i 1) : Vec Ideal S1x8960 .f32) := by
  refine ((Run.W4_arr m ρ c 6).trans (KernelArrays.ds (bound1 ρ h'))).trans ?_
  funext i
  obtain ⟨a, b, rfl⟩ : ∃ (a : Fin 1) (b : Fin 8960), i = ix2 a b := ⟨i 0, i 1, by funext k; fin_cases k <;> rfl⟩
  show Ideal.ofBits .f32 1008599475#32 * ∑ r, Spec.slope (Ideal.div (KernelArrays.W1 (Run.V3 m ρ) c r b) (KernelArrays.S1 (Run.V3 m ρ) c b))
    * KernelArrays.DQ1 (Run.V3 m ρ) c r b = _
  simp only [dq1 ρ h, w1, s1]
  rfl

/-- The second call leaves the codes of the second activation. -/
theorem v6_2 (h' : FineD m c) : Run.W4 m ρ c (Proc.devRef .tc main_v6_2)
    = (fun i => QY (Values.D (inD m c)) (i 0) (i 1) : Vec Ideal S9216x8960 .fp8e5m2) :=
  ((Run.W4_arr m ρ c 7).trans (KernelArrays.dyq (bound1 ρ h'))).trans (by rw [d1])

/-- The second call leaves the scales of the second activation. -/
theorem v6_3 (h' : FineD m c) : Run.W4 m ρ c (Proc.devRef .tc main_v6_3)
    = (fun i => SY (Values.D (inD m c)) (i 1) : Vec Ideal S1x8960 .f32) :=
  ((Run.W4_arr m ρ c 8).trans (KernelArrays.sy (bound1 ρ h'))).trans (by rw [d1])

/-- The packed weights. -/
theorem end_qp : Run.W5 m ρ c (Proc.devRef .tc main_v6_4) = Values.qp (inW m c) (inS m c) := by
  rw [Run.W5_of m ρ c main_v6_4 (by decide)]
  refine ((Run.W4_arr m ρ c 9).trans KernelArrays.qp).trans ?_
  rw [w1, s1]
  rfl

/-- The gradient of the weights' scales. -/
theorem end_ds (h : FineX m c) (h' : FineD m c) : Run.W5 m ρ c (Proc.devRef .tc main_v7)
    = Values.ds (inX m c) (inD m c) (inW m c) (inS m c) := by
  have e : Run.W5 m ρ c (Proc.devRef .tc main_v7)
      = shapeCast S8960 (Run.W4 m ρ c (Proc.devRef .tc main_v6_1) : Vec Ideal S1x8960 .f32) Values.castS' := by
    unfold Run.W5; after_results; rfl
  rw [e, v6_1 ρ h h']; rfl

/-- The low-precision first activation. -/
theorem end_xq (h : FineX m c) : Run.W5 m ρ c (Proc.devRef .tc main_v8) = Values.xq (inX m c) := by
  have e : Run.W5 m ρ c (Proc.devRef .tc main_v8)
      = shapeCast S24x384x1536 (Run.W4 m ρ c (Proc.devRef .tc main_v2_0) : Vec Ideal S9216x1536 .fp8e4m3) Values.castX' := by
    unfold Run.W5; after_results; rfl
  rw [e, Run.W4_of_ne m ρ c main_v2_0 (by decide), Run.W3_of m ρ c main_v2_0 (by decide), v2_0 ρ h]; rfl

/-- The scales of the first activation. -/
theorem end_sx (h : FineX m c) : Run.W5 m ρ c (Proc.devRef .tc main_v9) = Values.sx (inX m c) := by
  have e : Run.W5 m ρ c (Proc.devRef .tc main_v9)
      = shapeCast S1536 (Run.W4 m ρ c (Proc.devRef .tc main_v2_1) : Vec Ideal S1x1536 .f32) Values.castZ' := by
    unfold Run.W5; after_results; rfl
  rw [e, Run.W4_of_ne m ρ c main_v2_1 (by decide), Run.W3_of m ρ c main_v2_1 (by decide), v2_1 ρ h]; rfl

/-- The low-precision second activation. -/
theorem end_dyq (h' : FineD m c) : Run.W5 m ρ c (Proc.devRef .tc main_v10) = Values.dyq (inD m c) := by
  have e : Run.W5 m ρ c (Proc.devRef .tc main_v10)
      = shapeCast S24x384x8960 (Run.W4 m ρ c (Proc.devRef .tc main_v6_2) : Vec Ideal S9216x8960 .fp8e5m2) Values.castD' := by
    unfold Run.W5; after_results; rfl
  rw [e, v6_2 ρ h']; rfl

/-- The scales of the second activation. -/
theorem end_sy (h' : FineD m c) : Run.W5 m ρ c (Proc.devRef .tc main_v11) = Values.sy (inD m c) := by
  have e : Run.W5 m ρ c (Proc.devRef .tc main_v11)
      = shapeCast S8960 (Run.W4 m ρ c (Proc.devRef .tc main_v6_3) : Vec Ideal S1x8960 .f32) Values.castS' := by
    unfold Run.W5; after_results; rfl
  rw [e, v6_3 ρ h']; rfl

end Cert.KernelEnds
end
-- ==== Proof.RefValue.lean ====
module

public import proofs.«01_k».proof.Proof.Gen.ReferenceIdeal.Frame
public import proofs.«01_k».proof.Proof.Spec
@[expose] public section
set_option maxRecDepth 16384

/-! The reference's seven results, entry by entry. -/

namespace Cert.RefValue
open Idealize.ShloMosaic Cert.ReferenceIdeal Cert.ReferenceIdeal.Gen Cert.Spec

/-- A column's largest entry, from the reduction over the rows. -/
theorem colmax {n m : ℕ} {φ : FTy} (x : FVec Ideal ⟨2, ![n, m]⟩ φ) (acc : BitVec φ.bits)
    (h : Shape.Reduces (⟨2, ![n, m]⟩ : Shape) [0] ⟨1, ![m]⟩) (hφ) (hacc) (c : Fin m) :
    multiReduction .maximumf [0] ⟨1, ![m]⟩ x acc h hφ hacc (ix1 c)
      = Finset.univ.fold max (Ideal.ofBits φ acc) fun k : Fin n => x (ix2 k c) := by
  rw [Ideal.multiReduction_maximumf_single]
  refine congrArg (fun f => Finset.fold max (Ideal.ofBits φ acc) f (Finset.univ : Finset (Fin n))) (funext fun k => ?_)
  show x _ = _
  congr 1
  funext a
  match a with
  | 0 => rfl
  | 1 => rfl

/-- Widening the first activation keeps its entries. -/
theorem pay2 (x : Vec Ideal S9216x1536 .bf16) (r : Fin 9216) (c : Fin 1536) : k0_pay2 x (ix2 r c) = x (ix2 r c) := by
  pointwise [k0_pay2]

/-- Widening the second activation keeps its entries. -/
theorem pay5 (x : Vec Ideal S9216x8960 .bf16) (r : Fin 9216) (c : Fin 8960) : k0_pay5 x (ix2 r c) = x (ix2 r c) := by
  pointwise [k0_pay5]

/-- The quotient of the first activation's columns, as it is written. -/
noncomputable def quoX (x : Vec Ideal S9216x1536 .bf16) : FVec Ideal S1x1536 .f32 :=
  mulf (shapeCast S1x1536 (multiReduction .maximumf [0] S1536 (absf (k0_pay2 x)) 0xFF800000#32 reduces_S9216x1536_S1536 (.inl rfl) rfl)
    shapeCasts_S1536_S1x1536) (broadcast S1x1536 (Scalar.ofBits .f32 0x3B124925#32))

/-- An entry of a row times the constant 1/448. -/
theorem mul_const_x (v : FVec Ideal S1536 .f32) (c : Fin 1536) :
    mulf (shapeCast S1x1536 v shapeCasts_S1536_S1x1536) (broadcast S1x1536 (Scalar.ofBits .f32 0x3B124925#32)) (ix2 0 c)
      = v (ix1 c) * Ideal.ofBits .f32 991054117#32 := by pointwise []

/-- An entry of the quotients: the column's largest magnitude times the constant. -/
theorem quoX_apply (x : Vec Ideal S9216x1536 .bf16) (c : Fin 1536) :
    quoX x (ix2 0 c) = amax (fun r => x (ix2 r c)) * Ideal.ofBits .f32 991054117#32 := by
  unfold quoX
  rw [mul_const_x]
  refine congrArg (· * Ideal.ofBits .f32 991054117#32) ((colmax (absf (k0_pay2 x)) 0xFF800000#32 reduces_S9216x1536_S1536 (.inl rfl) rfl c).trans ?_)
  unfold amax
  congr 1
  funext k
  show max (k0_pay2 x (ix2 k c)) (-(k0_pay2 x (ix2 k c))) = _
  rw [pay2]

/-- An entry of a row times the constant 1/57344. -/
theorem mul_const_y (v : FVec Ideal S8960 .f32) (c : Fin 8960) :
    mulf (shapeCast S1x8960 v shapeCasts_S8960_S1x8960) (broadcast S1x8960 (Scalar.ofBits .f32 0x37924925#32)) (ix2 0 c)
      = v (ix1 c) * Ideal.ofBits .f32 932333861#32 := by pointwise []

/-- The second activation's quotients, written out. -/
theorem pay6_eq (x : Vec Ideal S9216x8960 .bf16) : k0_pay6 x =
    mulf (shapeCast S1x8960 (multiReduction .maximumf [0] S8960 (absf (k0_pay5 x)) 0xFF800000#32 reduces_S9216x8960_S8960 (.inl rfl) rfl)
      shapeCasts_S8960_S1x8960) (broadcast S1x8960 (Scalar.ofBits .f32 0x37924925#32)) := rfl

/-- An entry of the second activation's quotients. -/
theorem pay6 (x : Vec Ideal S9216x8960 .bf16) (c : Fin 8960) :
    k0_pay6 x (ix2 0 c) = amax (fun r => x (ix2 r c)) * Ideal.ofBits .f32 932333861#32 := by
  rw [pay6_eq, mul_const_y]
  refine congrArg (· * Ideal.ofBits .f32 932333861#32) ((colmax (absf (k0_pay5 x)) 0xFF800000#32 reduces_S9216x8960_S8960 (.inl rfl) rfl c).trans ?_)
  unfold amax
  congr 1
  funext k
  show max (k0_pay5 x (ix2 k c)) (-(k0_pay5 x (ix2 k c))) = _
  rw [pay5]

/-- The scale from the quotient, as it is written. -/
noncomputable def scaleX (v7 : FVec Ideal S1x1536 .f32) : FVec Ideal S1x1536 .f32 :=
  select (cmpf .olt v7 (broadcast S1x1536 (Scalar.ofBits .f32 0x00800000#32))) (broadcast S1x1536 (Scalar.ofBits .f32 0x3F800000#32))
    (shapeCast S1x1536 (multiReduction .minimumf [0] S1536
      (select (cmpf .ogt (broadcastTo S254x1536 (exp2 (sitofp (F := Ideal) .f32 (subi (iota .tc S254x1 32 [0] iota_S254x1_d0_w32) (broadcast S254x1 126#32)))) broadcasts_S254x1_S254x1536)
          (broadcastTo S254x1536 v7 broadcasts_S1x1536_S254x1536))
        (broadcastTo S254x1536 (shapeCast S254x1 (exp2 (sitofp (F := Ideal) .f32 (subi (iota .tc S254x1 32 [0] iota_S254x1_d0_w32) (broadcast S254x1 126#32)))) shapeCasts_S254x1_S254x1) broadcasts_S254x1_S254x1536)
        (broadcast S254x1536 (Scalar.ofBits .f32 0x7F800000#32)))
      0x7F800000#32 reduces_S254x1536_S1536 (.inl rfl) rfl) shapeCasts_S1536_S1x1536)

/-- The first activation's scales are the scale rule applied to its quotients. -/
theorem pay3_eq (x : Vec Ideal S9216x1536 .bf16) : k0_pay3 x = scaleX (quoX x) := rfl

/-- The scale rule, entry by entry. -/
theorem scaleX_apply (v : FVec Ideal S1x1536 .f32) (c : Fin 1536) : scaleX v (ix2 0 c) = sc (v (ix2 0 c)) := by
  pointwise [scaleX]
  rfl

/-- The first activation's scales. -/
theorem pay3 (x : Vec Ideal S9216x1536 .bf16) (c : Fin 1536) : k0_pay3 x (ix2 0 c) = SX (fun r c => x (ix2 r c)) c := by
  rw [pay3_eq, scaleX_apply, quoX_apply]; rfl

/-- The same rule for the second activation. -/
theorem pay7 (v : FVec Ideal S1x8960 .f32) (c : Fin 8960) :
    k0_pay7 v (iota .tc S254x1 32 [0] iota_S254x1_d0_w32) (ix2 0 c) = sc (v (ix2 0 c)) := by
  pointwise [k0_pay7]
  rfl

/-- The first activation's codes, written out. -/
theorem pay4_eq (x : Vec Ideal S9216x1536 .bf16) : k0_pay4 x = truncf (F := Ideal) .fp8e4m3 (minimumf (broadcast S9216x1536 (Scalar.ofBits .f32 0x43E00000#32)) (maximumf (broadcast S9216x1536 (Scalar.ofBits .f32 0xC3E00000#32)) (mulf (k0_pay2 x) (broadcastTo S9216x1536 (divf (broadcast S1x1536 (Scalar.ofBits .f32 0x3F800000#32)) (k0_pay3 x)) broadcasts_S1x1536_S9216x1536)))) bitsLt_fp8e4m3_f32 :=
  rfl

/-- An entry of a matrix divided by its scale and clamped, for the first format. -/
theorem quant_x (x : FVec Ideal S9216x1536 .f32) (s : FVec Ideal S1x1536 .f32) (r : Fin 9216) (c : Fin 1536) :
    truncf (F := Ideal) .fp8e4m3 (minimumf (broadcast S9216x1536 (Scalar.ofBits .f32 0x43E00000#32)) (maximumf (broadcast S9216x1536 (Scalar.ofBits .f32 0xC3E00000#32)) (mulf x (broadcastTo S9216x1536 (divf (broadcast S1x1536 (Scalar.ofBits .f32 0x3F800000#32)) s) broadcasts_S1x1536_S9216x1536)))) bitsLt_fp8e4m3_f32 (ix2 r c)
      = min (Ideal.ofBits FTy.f32 1138753536#32) (max (Ideal.ofBits FTy.f32 3286237184#32) (x (ix2 r c) * Ideal.div 1 (s (ix2 0 c)))) := by
  pointwise []

/-- The first activation, quantised. -/
theorem pay4 (x : Vec Ideal S9216x1536 .bf16) (r : Fin 9216) (c : Fin 1536) : k0_pay4 x (ix2 r c) = QX (fun r c => x (ix2 r c)) r c := by
  rw [pay4_eq, quant_x, pay2, pay3]; rfl

/-- The second activation's codes, written out. -/
theorem pay8_eq (x : FVec Ideal S9216x8960 .f32) (v : FVec Ideal S1x8960 .f32) (w : IVec S254x1 32) : k0_pay8 x v w = truncf (F := Ideal) .fp8e5m2 (minimumf (broadcast S9216x8960 (Scalar.ofBits .f32 0x47600000#32)) (maximumf (broadcast S9216x8960 (Scalar.ofBits .f32 0xC7600000#32)) (mulf x (broadcastTo S9216x8960 (divf (broadcast S1x8960 (Scalar.ofBits .f32 0x3F800000#32)) (k0_pay7 v w)) broadcasts_S1x8960_S9216x8960)))) bitsLt_fp8e5m2_f32 :=
  rfl

/-- An entry of a matrix divided by its scale and clamped, for the second format. -/
theorem quant_y (x : FVec Ideal S9216x8960 .f32) (s : FVec Ideal S1x8960 .f32) (r : Fin 9216) (c : Fin 8960) :
    truncf (F := Ideal) .fp8e5m2 (minimumf (broadcast S9216x8960 (Scalar.ofBits .f32 0x47600000#32)) (maximumf (broadcast S9216x8960 (Scalar.ofBits .f32 0xC7600000#32)) (mulf x (broadcastTo S9216x8960 (divf (broadcast S1x8960 (Scalar.ofBits .f32 0x3F800000#32)) s) broadcasts_S1x8960_S9216x8960)))) bitsLt_fp8e5m2_f32 (ix2 r c)
      = min (Ideal.ofBits FTy.f32 1197473792#32) (max (Ideal.ofBits FTy.f32 3344957440#32) (x (ix2 r c) * Ideal.div 1 (s (ix2 0 c)))) := by
  pointwise []

/-- The second activation's scales. -/
theorem scale_y (x : Vec Ideal S9216x8960 .bf16) (c : Fin 8960) :
    k0_pay7 (k0_pay6 x) (iota .tc S254x1 32 [0] iota_S254x1_d0_w32) (ix2 0 c) = SY (fun r c => x (ix2 r c)) c := by
  rw [pay7, pay6]; rfl

/-- The second activation, quantised. -/
theorem pay8 (x : Vec Ideal S9216x8960 .bf16) (r : Fin 9216) (c : Fin 8960) :
    k0_pay8 (k0_pay5 x) (k0_pay6 x) (iota .tc S254x1 32 [0] iota_S254x1_d0_w32) (ix2 r c) = QY (fun r c => x (ix2 r c)) r c := by
  rw [pay8_eq, quant_y, pay5, scale_y]; rfl

/-- The scaled product, written out. -/
theorem pay9_eq (v25 : FVec Ideal S1x1536 .f32) (v34 : FVec Ideal S9216x1536 .fp8e4m3) (v37 : FVec Ideal S9216x8960 .f32) (v42 : FVec Ideal S1x8960 .f32) (v43 : IVec S254x1 32) :
    k0_pay9 v25 v34 v37 v42 v43 = mulf (mulf (matmul dot_S9216x1536_S9216x8960_S1536x8960_0_0_1_1_n_n none v34 (k0_pay8 v37 v42 v43) (constant S1536x8960 .f32 0x00000000#32))
      (broadcastTo S1536x8960 (transpose S1536x1 [1, 0] v25 transposes_S1x1536_p1_0_S1536x1) broadcasts_S1536x1_S1536x8960))
      (broadcastTo S1536x8960 (k0_pay7 v42 v43) broadcasts_S1x8960_S1536x8960) := rfl

/-- An entry of the scaled product is a sum over the tokens times the two scales. -/
theorem prod (v25 : FVec Ideal S1x1536 .f32) (v34 : FVec Ideal S9216x1536 .fp8e4m3) (w : FVec Ideal S9216x8960 .fp8e5m2) (s : FVec Ideal S1x8960 .f32)
    (i : Fin 1536) (c : Fin 8960) :
    mulf (mulf (matmul dot_S9216x1536_S9216x8960_S1536x8960_0_0_1_1_n_n none v34 w (constant S1536x8960 .f32 0x00000000#32))
      (broadcastTo S1536x8960 (transpose S1536x1 [1, 0] v25 transposes_S1x1536_p1_0_S1536x1) broadcasts_S1536x1_S1536x8960))
      (broadcastTo S1536x8960 s broadcasts_S1x8960_S1536x8960) (ix2 i c)
      = (∑ t, v34 (ix2 t i) * w (ix2 t c)) * v25 (ix2 0 i) * s (ix2 0 c) := by
  pointwise []

/-- The product, rescaled. -/
theorem pay9 (x : Vec Ideal S9216x1536 .bf16) (d : Vec Ideal S9216x8960 .bf16) (i : Fin 1536) (c : Fin 8960) :
    k0_pay9 (k0_pay3 x) (k0_pay4 x) (k0_pay5 d) (k0_pay6 d) (iota .tc S254x1 32 [0] iota_S254x1_d0_w32) (ix2 i c)
      = DQ (fun r c => x (ix2 r c)) (fun r c => d (ix2 r c)) i c := by
  rw [pay9_eq, prod, pay3, scale_y]
  unfold DQ
  congr 2
  refine Finset.sum_congr rfl fun t _ => ?_
  rw [pay4, pay8]

/-- An entry of the weights over its step. -/
theorem pay10 (w : Vec Ideal S1536x8960 .f32) (s : Vec Ideal S1x8960 .f32) (i : Fin 1536) (c : Fin 8960) :
    k0_pay10 w s (ix2 i c) = Ideal.div (w (ix2 i c)) (s (ix2 0 c)) := by
  pointwise [k0_pay10]

/-- The integer weights, written out. -/
theorem pay11_eq (w : Vec Ideal S1536x8960 .f32) (s : Vec Ideal S1x8960 .f32) :
    k0_pay11 w s = fptosi (F := Ideal) 8 (minimumf (broadcast S1536x8960 (Scalar.sitofp .f32 7#32)) (maximumf (broadcast S1536x8960 (Scalar.sitofp .f32 4294967288#32)) (roundeven (k0_pay10 w s)))) := rfl

/-- An entry of a matrix rounded, clamped and made an integer. -/
theorem round_q (v : FVec Ideal S1536x8960 .f32) (i : Fin 1536) (c : Fin 8960) :
    fptosi (F := Ideal) 8 (minimumf (broadcast S1536x8960 (Scalar.sitofp .f32 7#32)) (maximumf (broadcast S1536x8960 (Scalar.sitofp .f32 4294967288#32)) (roundeven v))) (ix2 i c)
      = FloatOps.fptosi (F := Ideal) (φ := .f32) 8 (qf (v (ix2 i c))) := by
  pointwise []
  rfl

/-- An entry of the integer weights. -/
theorem pay11 (w : Vec Ideal S1536x8960 .f32) (s : Vec Ideal S1x8960 .f32) (i : Fin 1536) (c : Fin 8960) :
    k0_pay11 w s (ix2 i c) = FloatOps.fptosi (F := Ideal) (φ := .f32) 8 (qf (Ideal.div (w (ix2 i c)) (s (ix2 0 c)))) := by
  rw [pay11_eq, round_q, pay10]

/-- The gradient of the weights keeps the product where the quotient is in range. -/
theorem pay13 (g v : FVec Ideal S1536x8960 .f32) (i : Fin 1536) (c : Fin 8960) :
    k0_pay13 g v (ix2 i c) = pass (v (ix2 i c)) (g (ix2 i c)) := by
  pointwise [k0_pay13]
  rfl

/-- The gradient of a step is a constant times a sum over the rows. -/
theorem pay14 (g v : FVec Ideal S1536x8960 .f32) (q : IVec S1536x8960 8) (c : Fin 8960)
    (hq : ∀ i, q (ix2 i c) = FloatOps.fptosi (F := Ideal) (φ := .f32) 8 (qf (v (ix2 i c)))) :
    k0_pay14 g v q (ix2 0 c) = Ideal.ofBits .f32 1008599475#32 * ∑ i, slope (v (ix2 i c)) * g (ix2 i c) := by
  pointwise [k0_pay14]
  congr 1
  refine Finset.sum_congr rfl fun i _ => ?_
  rw [hq]
  rfl

/-- A packed entry joins the low nibbles of two neighbouring rows. -/
theorem pay1 (q : IVec S1536x8960 8) (r : Fin 768) (c : Fin 8960) :
    k0_pay1 (k0_pay12 q) (ix2 r c) = BitVec.setWidth 8
      (IntOp.ori (IntOp.andi (BitVec.signExtend 32 (q (ix2 ⟨↑r * 2, by omega⟩ c))) 15#32)
        (IntOp.shli ArithUnit.vector (IntOp.andi (BitVec.signExtend 32 (q (ix2 ⟨↑r * 2 + 1, by omega⟩ c))) 15#32) 4#32)) := by
  pointwise [k0_pay1, k0_pay12]

variable (x : Vec Ideal S9216x1536 .bf16) (d : Vec Ideal S9216x8960 .bf16) (w : Vec Ideal S1536x8960 .f32) (s : Vec Ideal S1x8960 .f32)

/-- The offsets of a whole buffer. -/
theorem zero2 : (![0, 0] : Fin 2 → ℕ) = fun _ => 0 := by funext a; match a with | 0 => rfl | 1 => rfl

/-- A load of the whole of a buffer is the buffer. -/
theorem ld0 : View.ld x r0_0 = x := View.ld_unit_zero zero2 _ _
/-- The same for the second activation. -/
theorem ld1 : View.ld d r0_1 = d := View.ld_unit_zero zero2 _ _
/-- The same for the weights. -/
theorem ld2 : View.ld w r0_2 = w := View.ld_unit_zero zero2 _ _
/-- The same for the weight steps. -/
theorem ld3 : View.ld s r0_3 = s := View.ld_unit_zero zero2 _ _

/-- The reference's gradient of the weights. -/
theorem out4 (i : Fin 1536) (c : Fin 8960) : out0_4 x d w s (ix2 i c)
    = pass (Ideal.div (w (ix2 i c)) (s (ix2 0 c))) (DQ (fun r c => x (ix2 r c)) (fun r c => d (ix2 r c)) i c) := by
  unfold out0_4
  rw [View.canon_unit_zero zero2, pay13]
  unfold k0_pay20 k0_pay21 k0_pay16 k0_pay17 k0_pay18 k0_pay19 k0_pay15
  rw [ld0, ld1, ld2, ld3, pay9, pay10]

/-- The reference's gradient of the scales. -/
theorem out5 (c : Fin 8960) : out0_5 x d w s (ix2 0 c)
    = DS (fun r c => x (ix2 r c)) (fun r c => d (ix2 r c)) (fun r c => w (ix2 r c)) (fun c => s (ix2 0 c)) c := by
  unfold out0_5
  rw [View.canon_unit_zero zero2]
  unfold k0_pay20 k0_pay21 k0_pay22 k0_pay16 k0_pay17 k0_pay18 k0_pay19 k0_pay15
  rw [ld0, ld1, ld2, ld3, pay14 _ _ _ _ (fun i => by rw [pay11, pay10])]
  unfold DS
  congr 1
  refine Finset.sum_congr rfl fun i _ => ?_
  rw [pay10, pay9]

/-- The reference's first activation in low precision. -/
theorem out6 (r : Fin 9216) (c : Fin 1536) : out0_6 x d w s (ix2 r c) = QX (fun r c => x (ix2 r c)) r c := by
  unfold out0_6
  rw [View.canon_unit_zero zero2]
  unfold k0_pay17
  rw [ld0, pay4]

/-- The reference's scales of the first activation. -/
theorem out7 (c : Fin 1536) : out0_7 x d w s (ix2 0 c) = SX (fun r c => x (ix2 r c)) c := by
  unfold out0_7
  rw [View.canon_unit_zero zero2]
  unfold k0_pay16
  rw [ld0, pay3]

/-- The reference's second activation in low precision. -/
theorem out8 (r : Fin 9216) (c : Fin 8960) : out0_8 x d w s (ix2 r c) = QY (fun r c => d (ix2 r c)) r c := by
  unfold out0_8
  rw [View.canon_unit_zero zero2]
  unfold k0_pay18 k0_pay19 k0_pay15
  rw [ld1, pay8]

/-- The reference's scales of the second activation. -/
theorem out9 (c : Fin 8960) : out0_9 x d w s (ix2 0 c) = SY (fun r c => d (ix2 r c)) c := by
  unfold out0_9
  rw [View.canon_unit_zero zero2]
  unfold k0_pay19 k0_pay15
  rw [ld1, scale_y]

/-- The reference's packed weights. -/
theorem out10 (r : Fin 768) (c : Fin 8960) : out0_10 x d w s (ix2 r c)
    = pack (Ideal.div (w (ix2 ⟨↑r * 2, by omega⟩ c)) (s (ix2 0 c))) (Ideal.div (w (ix2 ⟨↑r * 2 + 1, by omega⟩ c)) (s (ix2 0 c))) := by
  unfold out0_10
  rw [View.canon_unit_zero zero2, pay1]
  unfold k0_pay22
  rw [ld2, ld3, pay11, pay11]
  rfl

end Cert.RefValue
end
-- ==== Proof.RefEnds.lean ====
module

public import proofs.«01_k».proof.Proof.RefValue
public import proofs.«01_k».proof.Proof.Values
public import Idealize.ShloMosaic.Lib.Pipeline.ValueKit
@[expose] public section
set_option maxRecDepth 16384

/-! What the reference's result arrays hold at the end, in terms of its argument arrays. -/

namespace Cert.RefEnds
open Idealize.ShloMosaic Idealize.ShloMosaic.TcCoe Cert.ReferenceIdeal Cert.ReferenceIdeal.Gen Cert.Spec
open Idealize.SL Idealize.SL.Sem

variable (m : (ℓ : Loc nD τ sig) → Buf (Elt Ideal) ℓ) (ρ : Dev nD → PrngReg) (c : Dev nD)

/-- The first activation. -/
abbrev inX : Vec Ideal S24x384x1536 .bf16 := m ((c : Thread nD τ).loc main_arg0)
/-- The second activation. -/
abbrev inD : Vec Ideal S24x384x8960 .bf16 := m ((c : Thread nD τ).loc main_arg1)
/-- The weights. -/
abbrev inW : Vec Ideal S1536x8960 .f32 := m ((c : Thread nD τ).loc main_arg2)
/-- The weights' scales. -/
abbrev inS : Vec Ideal S8960 .f32 := m ((c : Thread nD τ).loc main_arg3)

/-- The reference call reads the first activation as a matrix. -/
theorem v0 : V m c main_v0 = shapeCast S9216x1536 (inX m c) Values.castX := by
  unfold V V0; simp only [List.flatten_cons, List.flatten_nil, List.append_nil]; after_results; rfl

/-- The reference call reads the second activation as a matrix. -/
theorem v1 : V m c main_v1 = shapeCast S9216x8960 (inD m c) Values.castD := by
  unfold V V0; simp only [List.flatten_cons, List.flatten_nil, List.append_nil]; after_results; rfl

/-- The reference call reads the weight steps as a single row. -/
theorem v2 : V m c main_v2 = shapeCast S1x8960 (inS m c) Values.castS := by
  unfold V V0; simp only [List.flatten_cons, List.flatten_nil, List.append_nil]; after_results; rfl

/-- Operand 0 of the reference call has one block, at the origin. -/
theorem at_0 : ∀ t : Fin cfg0.N, win0_0.index t = ![0, 0] := (by decide +kernel : ∀ t : Fin grid0.N, _)
/-- Operand 1 of the reference call has one block, at the origin. -/
theorem at_1 : ∀ t : Fin cfg0.N, win0_1.index t = ![0, 0] := (by decide +kernel : ∀ t : Fin grid0.N, _)
/-- Operand 2 of the reference call has one block, at the origin. -/
theorem at_2 : ∀ t : Fin cfg0.N, win0_2.index t = ![0, 0] := (by decide +kernel : ∀ t : Fin grid0.N, _)
/-- Operand 3 of the reference call has one block, at the origin. -/
theorem at_3 : ∀ t : Fin cfg0.N, win0_3.index t = ![0, 0] := (by decide +kernel : ∀ t : Fin grid0.N, _)

/-- The call's block of the first activation is the whole matrix. -/
theorem blk_0 (t : Fin cfg0.N) : (fun r j => (iblk m c 0 t : Vec Ideal S9216x1536 .bf16) (ix2 r j)) = Values.X (inX m c) := by
  funext r j
  blk_simp [iblk]
  have e : (win0_0.blk t).view.emb (ix2 r j) = (ix2 r j : S9216x1536.Idx) := by blk_ext [at_0]
  refine (congrArg (V m c main_v0) e).trans ?_
  exact congrFun (v0 m c) (ix2 r j)

/-- The call's block of the second activation is the whole matrix. -/
theorem blk_1 (t : Fin cfg0.N) : (fun r j => (iblk m c 1 t : Vec Ideal S9216x8960 .bf16) (ix2 r j)) = Values.D (inD m c) := by
  funext r j
  blk_simp [iblk]
  have e : (win0_1.blk t).view.emb (ix2 r j) = (ix2 r j : S9216x8960.Idx) := by blk_ext [at_1]
  refine (congrArg (V m c main_v1) e).trans ?_
  exact congrFun (v1 m c) (ix2 r j)

/-- The call's block of the weights is the whole matrix. -/
theorem blk_2 (t : Fin cfg0.N) : (fun r j => (iblk m c 2 t : Vec Ideal S1536x8960 .f32) (ix2 r j)) = Values.W (inW m c) := by
  funext r j
  blk_simp [iblk]
  have e : (win0_2.blk t).view.emb (ix2 r j) = (ix2 r j : S1536x8960.Idx) := by blk_ext [at_2]
  refine (congrArg (V m c main_arg2) e).trans ?_
  exact congrFun (V_main_arg2 m c) (ix2 r j)

/-- The call's block of the weight steps is the whole row. -/
theorem blk_3 (t : Fin cfg0.N) : (fun j => (iblk m c 3 t : Vec Ideal S1x8960 .f32) (ix2 0 j)) = Values.S (inS m c) := by
  funext j
  blk_simp [iblk]
  have e : (win0_3.blk t).view.emb (ix2 0 j) = (ix2 0 j : S1x8960.Idx) := by blk_ext [at_3]
  refine (congrArg (V m c main_v2) e).trans ?_
  exact congrFun (v2 m c) (ix2 0 j)

variable {m} {c}

/-- The same for one entry of the weights. -/
theorem blk_2' (t : Fin cfg0.N) (r : Fin 1536) (j : Fin 8960) : (iblk m c 2 t : Vec Ideal S1536x8960 .f32) (ix2 r j) = Values.W (inW m c) r j :=
  congrFun (congrFun (blk_2 m c t) r) j

/-- The same for one entry of the weight steps. -/
theorem blk_3' (t : Fin cfg0.N) (j : Fin 8960) : (iblk m c 3 t : Vec Ideal S1x8960 .f32) (ix2 0 j) = Values.S (inS m c) j :=
  congrFun (blk_3 m c t) j

/-- Operand 4 of the reference call has one block, at the origin. -/
theorem at_4 : ∀ t : Fin cfg0.N, win0_4.index t = ![0, 0] := (by decide +kernel : ∀ t : Fin grid0.N, _)
/-- Operand 5 of the reference call has one block, at the origin. -/
theorem at_5 : ∀ t : Fin cfg0.N, win0_5.index t = ![0, 0] := (by decide +kernel : ∀ t : Fin grid0.N, _)
/-- Operand 6 of the reference call has one block, at the origin. -/
theorem at_6 : ∀ t : Fin cfg0.N, win0_6.index t = ![0, 0] := (by decide +kernel : ∀ t : Fin grid0.N, _)
/-- Operand 7 of the reference call has one block, at the origin. -/
theorem at_7 : ∀ t : Fin cfg0.N, win0_7.index t = ![0, 0] := (by decide +kernel : ∀ t : Fin grid0.N, _)
/-- Operand 8 of the reference call has one block, at the origin. -/
theorem at_8 : ∀ t : Fin cfg0.N, win0_8.index t = ![0, 0] := (by decide +kernel : ∀ t : Fin grid0.N, _)
/-- Operand 9 of the reference call has one block, at the origin. -/
theorem at_9 : ∀ t : Fin cfg0.N, win0_9.index t = ![0, 0] := (by decide +kernel : ∀ t : Fin grid0.N, _)
/-- Operand 10 of the reference call has one block, at the origin. -/
theorem at_10 : ∀ t : Fin cfg0.N, win0_10.index t = ![0, 0] := (by decide +kernel : ∀ t : Fin grid0.N, _)

/-- The reference call leaves the gradient of the weights. -/
theorem dw : (dats m 0 c).arrAt 4 cfg0.N = (Values.dw (inX m c) (inD m c) (inW m c) (inS m c) : Vec Ideal S1536x8960 .f32) := by
  refine (dats m 0 c).arrAt_eq_of_covers 4 _ (by decide +kernel) fun t hf y => ?_
  blk_simp
  rw [after0_4]
  obtain ⟨r, j, rfl⟩ : ∃ (r : Fin 1536) (j : Fin 8960), y = ix2 r j := ⟨y 0, y 1, by funext a; fin_cases a <;> rfl⟩
  have e : (win0_4.blk t).view.emb (ix2 r j) = (ix2 r j : S1536x8960.Idx) := by
    blk_ext [at_4]
  refine (RefValue.out4 (iblk m c 0 t) (iblk m c 1 t) (iblk m c 2 t) (iblk m c 3 t) r j).trans (Eq.trans ?_ (congrArg (Values.dw (inX m c) (inD m c) (inW m c) (inS m c) : Vec Ideal S1536x8960 .f32) e.symm))
  rw [blk_0, blk_1, blk_2', blk_3']
  rfl

/-- The reference call leaves the gradient of the weight steps. -/
theorem ds : (dats m 0 c).arrAt 5 cfg0.N = (fun i => DS (Values.X (inX m c)) (Values.D (inD m c)) (Values.W (inW m c)) (Values.S (inS m c)) (i 1) : Vec Ideal S1x8960 .f32) := by
  refine (dats m 0 c).arrAt_eq_of_covers 5 _ (by decide +kernel) fun t hf y => ?_
  blk_simp
  rw [after0_5]
  obtain ⟨r, j, rfl⟩ : ∃ (r : Fin 1) (j : Fin 8960), y = ix2 r j := ⟨y 0, y 1, by funext a; fin_cases a <;> rfl⟩
  obtain rfl : r = 0 := Subsingleton.elim _ _
  have e : (win0_5.blk t).view.emb (ix2 0 j) = (ix2 0 j : S1x8960.Idx) := by
    blk_ext [at_5]
  refine (RefValue.out5 (iblk m c 0 t) (iblk m c 1 t) (iblk m c 2 t) (iblk m c 3 t) j).trans (Eq.trans ?_ (congrArg (fun i => DS (Values.X (inX m c)) (Values.D (inD m c)) (Values.W (inW m c)) (Values.S (inS m c)) (i 1) : Vec Ideal S1x8960 .f32) e.symm))
  rw [blk_0, blk_1, blk_2, blk_3]
  rfl

/-- The reference call leaves the codes of the first activation. -/
theorem xq : (dats m 0 c).arrAt 6 cfg0.N = (fun i => QX (Values.X (inX m c)) (i 0) (i 1) : Vec Ideal S9216x1536 .fp8e4m3) := by
  refine (dats m 0 c).arrAt_eq_of_covers 6 _ (by decide +kernel) fun t hf y => ?_
  blk_simp
  rw [after0_6]
  obtain ⟨r, j, rfl⟩ : ∃ (r : Fin 9216) (j : Fin 1536), y = ix2 r j := ⟨y 0, y 1, by funext a; fin_cases a <;> rfl⟩
  have e : (win0_6.blk t).view.emb (ix2 r j) = (ix2 r j : S9216x1536.Idx) := by
    blk_ext [at_6]
  refine (RefValue.out6 (iblk m c 0 t) (iblk m c 1 t) (iblk m c 2 t) (iblk m c 3 t) r j).trans (Eq.trans ?_ (congrArg (fun i => QX (Values.X (inX m c)) (i 0) (i 1) : Vec Ideal S9216x1536 .fp8e4m3) e.symm))
  rw [blk_0]
  rfl

/-- The reference call leaves the scales of the first activation. -/
theorem sx : (dats m 0 c).arrAt 7 cfg0.N = (fun i => SX (Values.X (inX m c)) (i 1) : Vec Ideal S1x1536 .f32) := by
  refine (dats m 0 c).arrAt_eq_of_covers 7 _ (by decide +kernel) fun t hf y => ?_
  blk_simp
  rw [after0_7]
  obtain ⟨r, j, rfl⟩ : ∃ (r : Fin 1) (j : Fin 1536), y = ix2 r j := ⟨y 0, y 1, by funext a; fin_cases a <;> rfl⟩
  obtain rfl : r = 0 := Subsingleton.elim _ _
  have e : (win0_7.blk t).view.emb (ix2 0 j) = (ix2 0 j : S1x1536.Idx) := by
    blk_ext [at_7]
  refine (RefValue.out7 (iblk m c 0 t) (iblk m c 1 t) (iblk m c 2 t) (iblk m c 3 t) j).trans (Eq.trans ?_ (congrArg (fun i => SX (Values.X (inX m c)) (i 1) : Vec Ideal S1x1536 .f32) e.symm))
  rw [blk_0]
  rfl

/-- The reference call leaves the codes of the second activation. -/
theorem dyq : (dats m 0 c).arrAt 8 cfg0.N = (fun i => QY (Values.D (inD m c)) (i 0) (i 1) : Vec Ideal S9216x8960 .fp8e5m2) := by
  refine (dats m 0 c).arrAt_eq_of_covers 8 _ (by decide +kernel) fun t hf y => ?_
  blk_simp
  rw [after0_8]
  obtain ⟨r, j, rfl⟩ : ∃ (r : Fin 9216) (j : Fin 8960), y = ix2 r j := ⟨y 0, y 1, by funext a; fin_cases a <;> rfl⟩
  have e : (win0_8.blk t).view.emb (ix2 r j) = (ix2 r j : S9216x8960.Idx) := by
    blk_ext [at_8]
  refine (RefValue.out8 (iblk m c 0 t) (iblk m c 1 t) (iblk m c 2 t) (iblk m c 3 t) r j).trans (Eq.trans ?_ (congrArg (fun i => QY (Values.D (inD m c)) (i 0) (i 1) : Vec Ideal S9216x8960 .fp8e5m2) e.symm))
  rw [blk_1]
  rfl

/-- The reference call leaves the scales of the second activation. -/
theorem sy : (dats m 0 c).arrAt 9 cfg0.N = (fun i => SY (Values.D (inD m c)) (i 1) : Vec Ideal S1x8960 .f32) := by
  refine (dats m 0 c).arrAt_eq_of_covers 9 _ (by decide +kernel) fun t hf y => ?_
  blk_simp
  rw [after0_9]
  obtain ⟨r, j, rfl⟩ : ∃ (r : Fin 1) (j : Fin 8960), y = ix2 r j := ⟨y 0, y 1, by funext a; fin_cases a <;> rfl⟩
  obtain rfl : r = 0 := Subsingleton.elim _ _
  have e : (win0_9.blk t).view.emb (ix2 0 j) = (ix2 0 j : S1x8960.Idx) := by
    blk_ext [at_9]
  refine (RefValue.out9 (iblk m c 0 t) (iblk m c 1 t) (iblk m c 2 t) (iblk m c 3 t) j).trans (Eq.trans ?_ (congrArg (fun i => SY (Values.D (inD m c)) (i 1) : Vec Ideal S1x8960 .f32) e.symm))
  rw [blk_1]
  rfl

/-- The reference call leaves the packed weights. -/
theorem qp : (dats m 0 c).arrAt 10 cfg0.N = (Values.qp (inW m c) (inS m c) : Vec Ideal S768x8960 .i8) := by
  refine (dats m 0 c).arrAt_eq_of_covers 10 _ (by decide +kernel) fun t hf y => ?_
  blk_simp
  rw [after0_10]
  obtain ⟨r, j, rfl⟩ : ∃ (r : Fin 768) (j : Fin 8960), y = ix2 r j := ⟨y 0, y 1, by funext a; fin_cases a <;> rfl⟩
  have e : (win0_10.blk t).view.emb (ix2 r j) = (ix2 r j : S768x8960.Idx) := by
    blk_ext [at_10]
  refine (RefValue.out10 (iblk m c 0 t) (iblk m c 1 t) (iblk m c 2 t) (iblk m c 3 t) r j).trans (Eq.trans ?_ (congrArg (Values.qp (inW m c) (inS m c) : Vec Ideal S768x8960 .i8) e.symm))
  rw [blk_2', blk_2', blk_3']
  rfl

/-- What the buffers hold after the last operations. -/
noncomputable abbrev fin (m : (ℓ : Loc nD τ sig) → Buf (Elt Ideal) ℓ) (c : Dev nD) (b : Ref sig .tc) : Buf (Elt Ideal) ((c : Thread nD τ).loc b) :=
  Pipeline.afterTail₀ cfgs (dats m) 0 (V0 m) [hostOps1] c b

/-- The second result of the reference. -/
theorem end_ds : fin m c main_v4 = Values.ds (inX m c) (inD m c) (inW m c) (inS m c) := by
  have e : fin m c main_v4 = shapeCast S8960 (Pipeline.withArrays spec0 c (V0 m c) (fun w => (dats m 0 c).arrAt w cfg0.N)
      (Proc.devRef .tc main_v3_1) : Vec Ideal S1x8960 .f32) Values.castS' := by
    unfold fin Pipeline.afterTail₀; simp only [List.flatten_cons, List.flatten_nil, List.append_nil]; after_results; rfl
  have e' : Pipeline.withArrays spec0 c (V0 m c) (fun w => (dats m 0 c).arrAt w cfg0.N) (Proc.devRef .tc main_v3_1) = (dats m 0 c).arrAt 5 cfg0.N :=
    Pipeline.withArrays_arr spec0 launch0.win.arr_inj c _ _ 5
  rw [e, e', ds]; rfl

/-- The third result of the reference. -/
theorem end_xq : fin m c main_v5 = Values.xq (inX m c) := by
  have e : fin m c main_v5 = shapeCast S24x384x1536 (Pipeline.withArrays spec0 c (V0 m c) (fun w => (dats m 0 c).arrAt w cfg0.N)
      (Proc.devRef .tc main_v3_2) : Vec Ideal S9216x1536 .fp8e4m3) Values.castX' := by
    unfold fin Pipeline.afterTail₀; simp only [List.flatten_cons, List.flatten_nil, List.append_nil]; after_results; rfl
  have e' : Pipeline.withArrays spec0 c (V0 m c) (fun w => (dats m 0 c).arrAt w cfg0.N) (Proc.devRef .tc main_v3_2) = (dats m 0 c).arrAt 6 cfg0.N :=
    Pipeline.withArrays_arr spec0 launch0.win.arr_inj c _ _ 6
  rw [e, e', xq]; rfl

/-- The fourth result of the reference. -/
theorem end_sx : fin m c main_v6 = Values.sx (inX m c) := by
  have e : fin m c main_v6 = shapeCast S1536 (Pipeline.withArrays spec0 c (V0 m c) (fun w => (dats m 0 c).arrAt w cfg0.N)
      (Proc.devRef .tc main_v3_3) : Vec Ideal S1x1536 .f32) Values.castZ' := by
    unfold fin Pipeline.afterTail₀; simp only [List.flatten_cons, List.flatten_nil, List.append_nil]; after_results; rfl
  have e' : Pipeline.withArrays spec0 c (V0 m c) (fun w => (dats m 0 c).arrAt w cfg0.N) (Proc.devRef .tc main_v3_3) = (dats m 0 c).arrAt 7 cfg0.N :=
    Pipeline.withArrays_arr spec0 launch0.win.arr_inj c _ _ 7
  rw [e, e', sx]; rfl

/-- The fifth result of the reference. -/
theorem end_dyq : fin m c main_v7 = Values.dyq (inD m c) := by
  have e : fin m c main_v7 = shapeCast S24x384x8960 (Pipeline.withArrays spec0 c (V0 m c) (fun w => (dats m 0 c).arrAt w cfg0.N)
      (Proc.devRef .tc main_v3_4) : Vec Ideal S9216x8960 .fp8e5m2) Values.castD' := by
    unfold fin Pipeline.afterTail₀; simp only [List.flatten_cons, List.flatten_nil, List.append_nil]; after_results; rfl
  have e' : Pipeline.withArrays spec0 c (V0 m c) (fun w => (dats m 0 c).arrAt w cfg0.N) (Proc.devRef .tc main_v3_4) = (dats m 0 c).arrAt 8 cfg0.N :=
    Pipeline.withArrays_arr spec0 launch0.win.arr_inj c _ _ 8
  rw [e, e', dyq]; rfl

/-- The sixth result of the reference. -/
theorem end_sy : fin m c main_v8 = Values.sy (inD m c) := by
  have e : fin m c main_v8 = shapeCast S8960 (Pipeline.withArrays spec0 c (V0 m c) (fun w => (dats m 0 c).arrAt w cfg0.N)
      (Proc.devRef .tc main_v3_5) : Vec Ideal S1x8960 .f32) Values.castS' := by
    unfold fin Pipeline.afterTail₀; simp only [List.flatten_cons, List.flatten_nil, List.append_nil]; after_results; rfl
  have e' : Pipeline.withArrays spec0 c (V0 m c) (fun w => (dats m 0 c).arrAt w cfg0.N) (Proc.devRef .tc main_v3_5) = (dats m 0 c).arrAt 9 cfg0.N :=
    Pipeline.withArrays_arr spec0 launch0.win.arr_inj c _ _ 9
  rw [e, e', sy]; rfl

end Cert.RefEnds
end
-- ==== Proof.Bound.lean ====
module

public import proofs.«01_k».proof.Pre_finite
public import Idealize.ShloMosaic.Lib.Pointwise
@[expose] public section
set_option maxRecDepth 16384

/-! What the precondition says entry by entry. -/

namespace Cert.Bound
open Idealize.ShloMosaic Cert.Pre_finite

/-- The side conditions of the precondition's operations. -/
theorem facts : Cert.Pre_finite.Facts := ⟨by decide, by decide⟩

/-- A comparison that came out true. -/
theorem le_of_bit {a b : EReal} (h : BitVec.ofBool (decide (a ≤ b)) = 1#1) : a ≤ b := by
  by_contra n
  simp [n] at h

variable [Cert.Pre_finite.Facts] (x : FVec Ideal S24x384x1536 .bf16) (d : FVec Ideal S24x384x8960 .bf16)
  (w : FVec Ideal S1536x8960 .f32) (s : FVec Ideal S8960 .f32)

/-- The first activation's entries are at most the format's largest number. -/
theorem boundX (h : (Cert.Pre_finite.fn x d w s).1 = fun _ => 1#1) (i : S24x384x1536.Idx) :
    max (x i) (-(x i)) ≤ Ideal.ofBits .bf16 0x7F7F#16 :=
  le_of_bit (congrFun h i)

/-- The second activation's entries are at most the format's largest number. -/
theorem boundD (h : (Cert.Pre_finite.fn x d w s).2 = fun _ => 1#1) (i : S24x384x8960.Idx) :
    max (d i) (-(d i)) ≤ Ideal.ofBits .bf16 0x7F7F#16 :=
  le_of_bit (congrFun h i)

end Cert.Bound
end
-- ==== Proof.lean ====
module

public import proofs.«01_k».proof.Defs
public import proofs.«01_k».proof.Proof.KernelRun
public import proofs.«01_k».proof.Proof.KernelEnds
public import proofs.«01_k».proof.Proof.RefEnds
public import proofs.«01_k».proof.Proof.Bound

@[expose] public section

set_option maxRecDepth 16384

/-! The claims of this directory, from the runs of the three programs and the values of the two idealized ones. -/

namespace Cert.Proof

open Idealize.ShloMosaic Idealize.ShloMosaic.TcCoe
open Idealize.SL Idealize.SL.Sem

/-- The idealized program ends with the seven results and its arguments unchanged. -/
theorem kernel (m : (ℓ : Loc KernelIdeal.nD KernelIdeal.τ KernelIdeal.sig) → Buf (Elt Ideal) ℓ) (g : Dev KernelIdeal.nD → PrngReg)
    (hx : ∀ c, KernelEnds.FineX m c) (hd : ∀ c, KernelEnds.FineD m c) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v6_0) = Values.dw (KernelEnds.inX m c) (KernelEnds.inD m c) (KernelEnds.inW m c) (KernelEnds.inS m c)
      ∧ r.2.mem ((c.tc : Thread KernelIdeal.nD KernelIdeal.τ).loc KernelIdeal.main_v7) = Values.ds (KernelEnds.inX m c) (KernelEnds.inD m c) (KernelEnds.inW m c) (KernelEnds.inS m c)
      ∧ r.2.mem ((c.tc : Thread KernelIdeal.nD KernelIdeal.τ).loc KernelIdeal.main_v8) = Values.xq (KernelEnds.inX m c)
      ∧ r.2.mem ((c.tc : Thread KernelIdeal.nD KernelIdeal.τ).loc KernelIdeal.main_v9) = Values.sx (KernelEnds.inX m c)
      ∧ r.2.mem ((c.tc : Thread KernelIdeal.nD KernelIdeal.τ).loc KernelIdeal.main_v10) = Values.dyq (KernelEnds.inD m c)
      ∧ r.2.mem ((c.tc : Thread KernelIdeal.nD KernelIdeal.τ).loc KernelIdeal.main_v11) = Values.sy (KernelEnds.inD m c)
      ∧ r.2.mem ((c.tc : Thread KernelIdeal.nD KernelIdeal.τ).loc KernelIdeal.main_v6_4) = Values.qp (KernelEnds.inW m c) (KernelEnds.inS m c)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)) :=
  (θ_run KernelIdeal.defs _ _).mono (fun _ h c =>
    ⟨(h.1 c _ (KernelIdeal.Run.mem_uc KernelIdeal.main_v6_0 (by decide))).trans (KernelEnds.end_dw g (hx c) (hd c)),
     (h.1 c _ (KernelIdeal.Run.mem_uc KernelIdeal.main_v7 (by decide))).trans (KernelEnds.end_ds g (hx c) (hd c)),
     (h.1 c _ (KernelIdeal.Run.mem_uc KernelIdeal.main_v8 (by decide))).trans (KernelEnds.end_xq g (hx c)),
     (h.1 c _ (KernelIdeal.Run.mem_uc KernelIdeal.main_v9 (by decide))).trans (KernelEnds.end_sx g (hx c)),
     (h.1 c _ (KernelIdeal.Run.mem_uc KernelIdeal.main_v10 (by decide))).trans (KernelEnds.end_dyq g (hd c)),
     (h.1 c _ (KernelIdeal.Run.mem_uc KernelIdeal.main_v11 (by decide))).trans (KernelEnds.end_sy g (hd c)),
     (h.1 c _ (KernelIdeal.Run.mem_uc KernelIdeal.main_v6_4 (by decide))).trans (KernelEnds.end_qp g),
     (h.1 c _ (KernelIdeal.Run.mem_uc KernelIdeal.main_arg0 (by decide))).trans (KernelIdeal.Run.W5_main_arg0 m g c),
     (h.1 c _ (KernelIdeal.Run.mem_uc KernelIdeal.main_arg1 (by decide))).trans (KernelIdeal.Run.W5_main_arg1 m g c),
     (h.1 c _ (KernelIdeal.Run.mem_uc KernelIdeal.main_arg2 (by decide))).trans (KernelIdeal.Run.W5_main_arg2 m g c),
     (h.1 c _ (KernelIdeal.Run.mem_uc KernelIdeal.main_arg3 (by decide))).trans (KernelIdeal.Run.W5_main_arg3 m g c)⟩)
    (KernelIdeal.Run.ends (F := Ideal) m g)

/-- The reference ends with the seven results and its arguments unchanged. -/
theorem reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v3_0) = Values.dw (RefEnds.inX m c) (RefEnds.inD m c) (RefEnds.inW m c) (RefEnds.inS m c)
      ∧ r.2.mem ((c.tc : Thread ReferenceIdeal.nD ReferenceIdeal.τ).loc ReferenceIdeal.main_v4) = Values.ds (RefEnds.inX m c) (RefEnds.inD m c) (RefEnds.inW m c) (RefEnds.inS m c)
      ∧ r.2.mem ((c.tc : Thread ReferenceIdeal.nD ReferenceIdeal.τ).loc ReferenceIdeal.main_v5) = Values.xq (RefEnds.inX m c)
      ∧ r.2.mem ((c.tc : Thread ReferenceIdeal.nD ReferenceIdeal.τ).loc ReferenceIdeal.main_v6) = Values.sx (RefEnds.inX m c)
      ∧ r.2.mem ((c.tc : Thread ReferenceIdeal.nD ReferenceIdeal.τ).loc ReferenceIdeal.main_v7) = Values.dyq (RefEnds.inD m c)
      ∧ r.2.mem ((c.tc : Thread ReferenceIdeal.nD ReferenceIdeal.τ).loc ReferenceIdeal.main_v8) = Values.sy (RefEnds.inD m c)
      ∧ r.2.mem ((c.tc : Thread ReferenceIdeal.nD ReferenceIdeal.τ).loc ReferenceIdeal.main_v3_6) = Values.qp (RefEnds.inW m c) (RefEnds.inS m c)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)) :=
  (θ_run ReferenceIdeal.defs _ _).mono (fun _ h c =>
    ⟨((h c).1 4).trans RefEnds.dw,
     ((h c).2 ReferenceIdeal.main_v4 (Pipeline.mem_restRefs_of ReferenceIdeal.main_v4 (by decide) (by decide))).trans RefEnds.end_ds,
     ((h c).2 ReferenceIdeal.main_v5 (Pipeline.mem_restRefs_of ReferenceIdeal.main_v5 (by decide) (by decide))).trans RefEnds.end_xq,
     ((h c).2 ReferenceIdeal.main_v6 (Pipeline.mem_restRefs_of ReferenceIdeal.main_v6 (by decide) (by decide))).trans RefEnds.end_sx,
     ((h c).2 ReferenceIdeal.main_v7 (Pipeline.mem_restRefs_of ReferenceIdeal.main_v7 (by decide) (by decide))).trans RefEnds.end_dyq,
     ((h c).2 ReferenceIdeal.main_v8 (Pipeline.mem_restRefs_of ReferenceIdeal.main_v8 (by decide) (by decide))).trans RefEnds.end_sy,
     ((h c).1 10).trans RefEnds.qp,
     ((h c).2 ReferenceIdeal.main_arg0 (Pipeline.mem_restRefs_of ReferenceIdeal.main_arg0 (by decide) (by decide))).trans (ReferenceIdeal.Gen.W_main_arg0 m (ReferenceIdeal.Gen.dats m) c),
     ((h c).2 ReferenceIdeal.main_arg1 (Pipeline.mem_restRefs_of ReferenceIdeal.main_arg1 (by decide) (by decide))).trans (ReferenceIdeal.Gen.W_main_arg1 m (ReferenceIdeal.Gen.dats m) c),
     ((h c).1 2).trans (((ReferenceIdeal.Gen.dats m 0 c).arrAt_in 2 rfl _).trans ((ReferenceIdeal.Gen.A_eq m c 2).trans (ReferenceIdeal.Gen.V_main_arg2 m c))),
     ((h c).2 ReferenceIdeal.main_arg3 (Pipeline.mem_restRefs_of ReferenceIdeal.main_arg3 (by decide) (by decide))).trans (ReferenceIdeal.Gen.W_main_arg3 m (ReferenceIdeal.Gen.dats m) c)⟩)
    (ReferenceIdeal.Gen.run_main (F := Ideal) m g)

/-- Under the bound on the activations the two idealized programs end with equal results, all seven of them. -/
theorem algebraic : @algebraic_KernelIdeal_ReferenceIdeal_pre_finite KernelIdeal.Gen.facts ReferenceIdeal.Gen.facts Bound.facts := by
  intro m g m' g' hpre hargs
  have hx : ∀ c, KernelEnds.FineX m c := fun c => @Bound.boundX Bound.facts _ _ _ _ (hpre c).1
  have hd : ∀ c, KernelEnds.FineD m c := fun c => @Bound.boundD Bound.facts _ _ _ _ (hpre c).2
  refine ⟨_, _, _, _, _, _, _, kernel m g hx hd, ?_⟩
  refine (θ_run ReferenceIdeal.defs _ _).mono (fun r h c => ?_) (reference m' g')
  obtain ⟨e0, e1, e2, e3⟩ := hargs c
  have i0 : RefEnds.inX m' c = KernelEnds.inX m c := e0
  have i1 : RefEnds.inD m' c = KernelEnds.inD m c := e1
  have i2 : RefEnds.inW m' c = KernelEnds.inW m c := e2
  have i3 : RefEnds.inS m' c = KernelEnds.inS m c := e3
  have hc := h c
  rw [i0, i1, i2, i3] at hc
  exact hc

/-- Everything claimed in this directory. -/
theorem claim : Cert.Claim :=
  ⟨Cert.Kernel.Gen.facts, Cert.KernelIdeal.Gen.facts, Cert.ReferenceIdeal.Gen.facts, Bound.facts,
    fun m g _ => Cert.Kernel.Run.frame (F := Bits) m g,
    fun m g _ => Cert.KernelIdeal.Run.frame (F := Ideal) m g,
    fun m g _ => Cert.KernelIdeal.Run.frame (F := Ideal) m g,
    fun m g _ => Cert.ReferenceIdeal.Gen.frame (F := Ideal) m g,
    fun m g _ => Cert.ReferenceIdeal.Gen.frame (F := Ideal) m g,
    trivial, algebraic⟩

end Cert.Proof
end
